-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_on_inside_the_clip [hKernelIdeal : Cert.KernelIdeal.Facts] [hReferenceIdeal : Cert.ReferenceIdeal.Facts] [hOn_inside_the_clip : Cert.On_inside_the_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 1024]⟩ : Shape).Idx, (Layout.block ⟨2, ![256, 1024]⟩ ⟨2, ![1024, 1024]⟩ 0 4 c ((Cert.On_inside_the_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![256, 1024]⟩ : Shape).Idx → _) i = 1#1 → r.2.mem ((c.tc : Thread Cert.KernelIdeal.nD Cert.KernelIdeal.τ).loc Cert.KernelIdeal.main_v1) i = (Layout.block ⟨2, ![256, 1024]⟩ ⟨2, ![1024, 1024]⟩ 0 4 c v0 : (⟨2, ![256, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 1024]⟩ : Shape).Idx, (Cert.On_inside_the_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_inside_the_clip : Cert.On_inside_the_clip.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_ReferenceIdeal_on_inside_the_clip (hKernelIdeal := hKernelIdeal) (hReferenceIdeal := hReferenceIdeal) (hOn_inside_the_clip := hOn_inside_the_clip)
    ∧ algebraic_KernelIdeal_SiluIdeal (hKernelIdeal := hKernelIdeal) (hSiluIdeal := hSiluIdeal)
-- ==== On_inside_the_clip.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .f32) (main_arg1 : FVec F S1024x1024 .f32) : IVec S1024x1024 1 :=
  let main_v0 : FVec F S1024x1024 .f32 := (fun l r => Host.dotGeneral dot_S1024x1024_S1024x1024_S1024x1024_1_0_0_1_n_n none l r) main_arg0 main_arg1
  let main_v1 : FVec F S1024x1024 .f32 := Host.absf main_v0
  let main_cst : FVec F S_ .f32 := constant S_ .f32 0x42700000#32
  let main_v2 : FVec F S1024x1024 .f32 := broadcastInDim S1024x1024 ![] bcast_S_S1024x1024 main_cst
  let main_v3 : IVec S1024x1024 1 := cmpf .ole main_v1 main_v2
  main_v3
-- ==== Kernel.lean ====
abbrev S1024x256 : Shape := ⟨2, ![1024, 256]⟩
abbrev S256x1024 : Shape := ⟨2, ![256, 1024]⟩
abbrev S3x4x64x512 : Shape := ⟨4, ![3, 4, 64, 512]⟩
abbrev S3x4 : Shape := ⟨2, ![3, 4]⟩
abbrev S_ : Shape := ⟨0, ![]⟩
abbrev S256x256 : Shape := ⟨2, ![256, 256]⟩
abbrev S256x512 : Shape := ⟨2, ![256, 512]⟩
abbrev S64x512 : Shape := ⟨2, ![64, 512]⟩
abbrev S1x1x64x512 : Shape := ⟨4, ![1, 1, 64, 512]⟩
abbrev S1x1 : Shape := ⟨2, ![1, 1]⟩

abbrev nBuf : Space → Nat
  | .hbm => 3
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S256x1024, .f32⟩
  | .hbm, ⟨2, _⟩ => ⟨S256x1024, .f32⟩
  | .local _ .vmem, ⟨0, _⟩ => ⟨S1024x256, .f32⟩
  | .local _ .vmem, ⟨1, _⟩ => ⟨S256x1024, .f32⟩
  | .local _ .vmem, ⟨2, _⟩ => ⟨S256x1024, .f32⟩
  | .local _ .vmem, ⟨3, _⟩ => ⟨S3x4x64x512, .bf16⟩
  | .local _ .vmem, ⟨4, _⟩ => ⟨S3x4x64x512, .bf16⟩
  | .local _ .vmem, ⟨5, _⟩ => ⟨S3x4x64x512, .bf16⟩
  | .local _ .vmem, ⟨6, _⟩ => ⟨S3x4x64x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_11 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v13 : BitVec 32 := Scalar.addi v2 c8_i32
  let c1_i32_10 : BitVec 32 := 1#32
  let v14 : BitVec 32 := Scalar.subi v13 c1_i32_10
  let v15 : BitVec 32 := Scalar.subi v14 c0_i32_11
  let c4_i32_12 : BitVec 32 := 4#32
  let v16 : BitVec 32 := Scalar.remsi v15 c4_i32_12
  let c256_i32 : BitVec 32 := 256#32
  let v17 : BitVec 32 := Scalar.muli v16 c256_i32
  let v18 : Index := Scalar.indexCast v17
  let c0 : Index := 0#32
  ![v18.toNat, 0]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_27 : BitVec 32 := 1#32
  let v29 : BitVec 32 := Scalar.muli v7 c1_i32_27
  let v30 : BitVec 32 := Scalar.addi c0_i32_28 v29
  v30.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_44 : BitVec 32 := 1#32
  let v44 : BitVec 32 := Scalar.muli v7 c1_i32_44
  let v45 : BitVec 32 := Scalar.addi c0_i32_45 v44
  v45.toNat
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_61 : BitVec 32 := 1#32
  let v59 : BitVec 32 := Scalar.muli v7 c1_i32_61
  let v60 : BitVec 32 := Scalar.addi c0_i32_62 v59
  v60.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_77 : BitVec 32 := 1#32
  let v74 : BitVec 32 := Scalar.muli v7 c1_i32_77
  let v75 : BitVec 32 := Scalar.addi c0_i32_78 v74
  v75.toNat
def k0_off2 (d0 : Dev nD) (c0_i32_84 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_83 : BitVec 32 := 1#32
  let v84 : BitVec 32 := Scalar.addi v2 c1_i32_83
  let v85 : BitVec 32 := Scalar.addi v84 c0_i32_84
  let c4_i32_85 : BitVec 32 := 4#32
  let v86 : BitVec 32 := Scalar.remsi v85 c4_i32_85
  let c256_i32_86 : BitVec 32 := 256#32
  let v87 : BitVec 32 := Scalar.muli v86 c256_i32_86
  let v88 : Index := Scalar.indexCast v87
  let c0_87 : Index := 0#32
  ![v88.toNat, 0]
def k0_dev7 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_102 : BitVec 32 := 1#32
  let v99 : BitVec 32 := Scalar.muli v5 c1_i32_102
  let v100 : BitVec 32 := Scalar.addi c0_i32_103 v99
  v100.toNat
def k0_dev8 (d0 : Dev nD) : Nat :=
  let c0_i32_121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_120 : BitVec 32 := 1#32
  let v114 : BitVec 32 := Scalar.muli v5 c1_i32_120
  let v115 : BitVec 32 := Scalar.addi c0_i32_121 v114
  v115.toNat
def k0_dev9 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_138 : BitVec 32 := 1#32
  let v129 : BitVec 32 := Scalar.muli v5 c1_i32_138
  let v130 : BitVec 32 := Scalar.addi c0_i32_139 v129
  v130.toNat
def k0_dev10 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_156 : BitVec 32 := 1#32
  let v144 : BitVec 32 := Scalar.muli v5 c1_i32_156
  let v145 : BitVec 32 := Scalar.addi c0_i32_157 v144
  v145.toNat
def k0_dev11 (d0 : Dev nD) : Nat :=
  let c0_i32_223 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_222 : BitVec 32 := 1#32
  let v198 : BitVec 32 := Scalar.muli v7 c1_i32_222
  let v199 : BitVec 32 := Scalar.addi c0_i32_223 v198
  v199.toNat
def k0_dev12 (d0 : Dev nD) : Nat :=
  let c0_i32_272 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_271 : BitVec 32 := 1#32
  let v231 : BitVec 32 := Scalar.muli v5 c1_i32_271
  let v232 : BitVec 32 := Scalar.addi c0_i32_272 v231
  v232.toNat
def k0_dev13 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_320 : BitVec 32 := 1#32
  let v264 : BitVec 32 := Scalar.muli v7 c1_i32_320
  let v265 : BitVec 32 := Scalar.addi c0_i32_321 v264
  v265.toNat
def k0_dev14 (d0 : Dev nD) : Nat :=
  let c0_i32_370 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_369 : BitVec 32 := 1#32
  let v297 : BitVec 32 := Scalar.muli v5 c1_i32_369
  let v298 : BitVec 32 := Scalar.addi c0_i32_370 v297
  v298.toNat
def k0_dev15 (d0 : Dev nD) : Nat :=
  let c0_i32_419 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_418 : BitVec 32 := 1#32
  let v330 : BitVec 32 := Scalar.muli v7 c1_i32_418
  let v331 : BitVec 32 := Scalar.addi c0_i32_419 v330
  v331.toNat
def k0_dev16 (d0 : Dev nD) : Nat :=
  let c0_i32_468 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_467 : BitVec 32 := 1#32
  let v363 : BitVec 32 := Scalar.muli v5 c1_i32_467
  let v364 : BitVec 32 := Scalar.addi c0_i32_468 v363
  v364.toNat
def k0_dev17 (d0 : Dev nD) : Nat :=
  let c0_i32_517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_516 : BitVec 32 := 1#32
  let v396 : BitVec 32 := Scalar.muli v7 c1_i32_516
  let v397 : BitVec 32 := Scalar.addi c0_i32_517 v396
  v397.toNat
def k0_dev18 (d0 : Dev nD) : Nat :=
  let c0_i32_566 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_565 : BitVec 32 := 1#32
  let v429 : BitVec 32 := Scalar.muli v5 c1_i32_565
  let v430 : BitVec 32 := Scalar.addi c0_i32_566 v429
  v430.toNat
def k0_dev19 (d0 : Dev nD) : Nat :=
  let c0_i32_632 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_631 : BitVec 32 := 1#32
  let v483 : BitVec 32 := Scalar.muli v7 c1_i32_631
  let v484 : BitVec 32 := Scalar.addi c0_i32_632 v483
  v484.toNat
def k0_dev20 (d0 : Dev nD) : Nat :=
  let c0_i32_681 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_680 : BitVec 32 := 1#32
  let v516 : BitVec 32 := Scalar.muli v5 c1_i32_680
  let v517 : BitVec 32 := Scalar.addi c0_i32_681 v516
  v517.toNat
def k0_dev21 (d0 : Dev nD) : Nat :=
  let c0_i32_730 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_729 : BitVec 32 := 1#32
  let v549 : BitVec 32 := Scalar.muli v7 c1_i32_729
  let v550 : BitVec 32 := Scalar.addi c0_i32_730 v549
  v550.toNat
def k0_dev22 (d0 : Dev nD) : Nat :=
  let c0_i32_779 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_778 : BitVec 32 := 1#32
  let v582 : BitVec 32 := Scalar.muli v5 c1_i32_778
  let v583 : BitVec 32 := Scalar.addi c0_i32_779 v582
  v583.toNat
def k0_dev23 (d0 : Dev nD) : Nat :=
  let c0_i32_828 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_827 : BitVec 32 := 1#32
  let v615 : BitVec 32 := Scalar.muli v7 c1_i32_827
  let v616 : BitVec 32 := Scalar.addi c0_i32_828 v615
  v616.toNat
def k0_dev24 (d0 : Dev nD) : Nat :=
  let c0_i32_877 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_876 : BitVec 32 := 1#32
  let v648 : BitVec 32 := Scalar.muli v5 c1_i32_876
  let v649 : BitVec 32 := Scalar.addi c0_i32_877 v648
  v649.toNat
def k0_dev25 (d0 : Dev nD) : Nat :=
  let c0_i32_926 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_925 : BitVec 32 := 1#32
  let v681 : BitVec 32 := Scalar.muli v7 c1_i32_925
  let v682 : BitVec 32 := Scalar.addi c0_i32_926 v681
  v682.toNat
def k0_dev26 (d0 : Dev nD) : Nat :=
  let c0_i32_975 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_974 : BitVec 32 := 1#32
  let v714 : BitVec 32 := Scalar.muli v5 c1_i32_974
  let v715 : BitVec 32 := Scalar.addi c0_i32_975 v714
  v715.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_980 : BitVec 32 := 256#32
  let v724 : BitVec 32 := Scalar.muli v2 c256_i32_980
  let v725 : Index := Scalar.indexCast v724
  let c0_981 : Index := 0#32
  ![v725.toNat, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.RingIdeal.Vals.lean ====
/- What the kernel's arrays hold, written as functions of every device's two argument blocks, for any float values:
   the products of a device, the partial sums that it sends on at each step of the two rings, its result. -/
module

public import proofs.«01_k».proof.Proof.Gen.KernelIdeal.Skeleton
public import Idealize.ShloMosaic.Lib.Pipeline.Kit
public import Idealize.ShloMosaic.Lib.Pipeline.Value
public import Idealize.ShloMosaic.Lib.Pointwise

@[expose] public section

set_option maxRecDepth 16384

noncomputable section

namespace Cert.KernelIdeal.Ring

open Cert.KernelIdeal Cert.KernelIdeal.Gen
open Idealize.ShloMosaic Idealize.ShloMosaic.TcCoe

variable {F : FTy → Type} [FloatOps F]

/-! ## The ring of devices -/

/-- The device after `c`, to which `c` sends in the first lane. -/
def nxt (c : Dev nD) : Dev nD := ⟨(c.val + 1) % 4, Nat.mod_lt _ (by decide)⟩
/-- The device before `c`, to which `c` sends in the second lane. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

/-- Where `c` sends to in lane `d`: the first lane (`false`) goes up the ring, the second (`true`) down. -/
def dst (d : Bool) (c : Dev nD) : Dev nD := match d with | false => nxt c | true => prv c
/-- Where `c` receives from in lane `d`. -/
def src (d : Bool) (c : Dev nD) : Dev nD := match d with | false => prv c | true => nxt c

theorem src_dst (d : Bool) (c : Dev nD) : src d (dst d c) = c := by revert d c; decide
theorem dst_src (d : Bool) (c : Dev nD) : dst d (src d c) = c := by revert d c; decide

/-- The block of rows of the result whose partial sum device `c` works on at step `h` of lane `d`. -/
def chunk (d : Bool) (h : ℕ) (c : Dev nD) : ℕ := match d with | false => (c.val + 7 - h) % 4 | true => (c.val + 1 + h) % 4

/-! ## Values -/

variable (x : Dev nD → S1024x256.Idx → F .f32) (w : Dev nD → S256x1024.Idx → F .f32)

/-- Row `a`, column `b` of an array of 1024 rows. -/
abbrev iX (a : ℕ) (b : Fin 256) : S1024x256.Idx := fun | ⟨0, _⟩ => Fin.ofNat 1024 a | ⟨1, _⟩ => b
/-- Row `a`, column `b` of an array of 1024 columns. -/
abbrev iW (a : Fin 256) (b : ℕ) : S256x1024.Idx := fun | ⟨0, _⟩ => a | ⟨1, _⟩ => Fin.ofNat 1024 b
/-- Row `a`, column `b` of a half of a block of the result. -/
abbrev iP (a : ℕ) (b : Fin 512) : S256x512.Idx := fun | ⟨0, _⟩ => Fin.ofNat 256 a | ⟨1, _⟩ => b

/-- Rows `256 k …` of a device's block of the first argument. -/
def xRows (k : ℕ) (X : S1024x256.Idx → F .f32) : FVec F S256x256 .f32 := fun i => X (iX (256 * k + (i 0).val) (i 1))
/-- The columns of lane `d` of a device's block of the second argument. -/
def wHalf (d : Bool) (W : S256x1024.Idx → F .f32) : FVec F S256x512 .f32 :=
  fun i => W (iW (i 0) (match d with | false => (i 1).val | true => 512 + (i 1).val))

/-- Device `c`'s own contribution to rows block `k` of the result, in the columns of lane `d`. -/
def part (d : Bool) (k : ℕ) (c : Dev nD) : FVec F S256x512 .f32 := k0_pay1 (xRows k (x c)) (wHalf d (w c))

/-- What device `c` sends at step `h` of lane `d`: its contribution plus what it received at the step before. -/
def sent (d : Bool) : ℕ → Dev nD → FVec F S256x512 .bf16
  | 0, c => truncf .bf16 (part x w d (chunk d 0 c) c) bitsLt_bf16_f32
  | h + 1, c => truncf .bf16 (addf (part x w d (chunk d (h + 1) c) c) (extf .f32 (sent d h (src d c)) bitsLt_bf16_f32)) bitsLt_bf16_f32

/-- The complete sums of device `c`'s own rows, in the columns of lane `d`. -/
def total (d : Bool) (c : Dev nD) : FVec F S256x512 .f32 :=
  addf (part x w d c.val c) (extf .f32 (sent x w d 2 (src d c)) bitsLt_bf16_f32)

/-- The kernel's activation of one element. -/
def act (y : F .f32) : F .f32 :=
  FloatOps.mulf y (FloatOps.divf (Scalar.ofBits .f32 0x3F800000#32)
    (FloatOps.addf (Scalar.ofBits .f32 0x3F800000#32) (FloatOps.exp (FloatOps.subf (Scalar.ofBits .f32 0x00000000#32) y))))

/-- Device `c`'s block of the result. -/
def outC (c : Dev nD) : S256x1024.Idx → F .f32 := fun i =>
  if h : (i 1).val < 512 then act (total x w false c (iP (i 0).val ⟨(i 1).val, h⟩))
  else act (total x w true c (iP (i 0).val ⟨(i 1).val - 512, by have h2 : (i 1).val < 1024 := (i 1).isLt; omega⟩))

/-- What a send buffer of lane `d` of device `c` ends holding, slot by slot. -/
def sentBuf (d : Bool) (c : Dev nD) : S3x4x64x512.Idx → F .bf16 := fun i =>
  sent x w d (i 0).val c (iP (64 * (i 1).val + (i 2).val) (i 3))

/-- A slot of a communication buffer as a block. -/
def slotBlk (f : S3x4x64x512.Idx → F .bf16) (h : Fin 3) (j : Fin 4) : S1x1x64x512.Idx → F .bf16 :=
  fun i => f (fun | ⟨0, _⟩ => h | ⟨1, _⟩ => j | ⟨2, _⟩ => i 2 | ⟨3, _⟩ => i 3)

/-- A block of 64 rows of half of the result. -/
def outRows (d : Bool) (j : Fin 4) (c : Dev nD) : S64x512.Idx → F .f32 :=
  fun i => act (total x w d c (iP (64 * j.val + (i 0).val) (i 1)))

/-! ## The printed payloads are those values -/

/-- The index of a block of 64 rows that a slot's index stands for. -/
abbrev iR (i : S1x1x64x512.Idx) : S64x512.Idx := fun | ⟨0, _⟩ => i 2 | ⟨1, _⟩ => i 3
/-- The index of a slot that a block's index stands for. -/
abbrev iS (i : S64x512.Idx) : S1x1x64x512.Idx :=
  fun | ⟨0, _⟩ => (0 : Fin 1) | ⟨1, _⟩ => (0 : Fin 1) | ⟨2, _⟩ => i 0 | ⟨3, _⟩ => i 1

/-- A block of 64 rows read as a slot. -/
theorem cast_slot {α : Type} (v : S64x512.Idx → α) (i : S1x1x64x512.Idx) :
    shapeCast S1x1x64x512 v shapeCasts_S64x512_S1x1x64x512 i = v (iR i) := by
  refine shapeCast_apply v _ i _ ?_
  rw [Shape.rowMajor_val_two, Shape.rowMajor_val_four]
  have h0 : (i 0).val < 1 := (i 0).isLt
  have h1 : (i 1).val < 1 := (i 1).isLt
  show (i 2).val * 512 + (i 3).val = (((i 0).val * 1 + (i 1).val) * 64 + (i 2).val) * 512 + (i 3).val
  omega

/-- A slot read as a block of 64 rows. -/
theorem cast_rows {α : Type} (v : S1x1x64x512.Idx → α) (i : S64x512.Idx) :
    shapeCast S64x512 v shapeCasts_S1x1x64x512_S64x512 i = v (iS i) := by
  refine shapeCast_apply v _ i _ ?_
  rw [Shape.rowMajor_val_two, Shape.rowMajor_val_four]
  show ((0 * 1 + 0) * 64 + (i 0).val) * 512 + (i 1).val = (i 0).val * 512 + (i 1).val
  omega

/-- Rows `64 j …` of a half block. -/
theorem rows64 {α : Type} (v : S256x512.Idx → α) (j : Fin 4) (hs : S256x512.Slices ![64 * j.val, 0] S64x512) (i : S64x512.Idx) :
    extractStridedSlice S64x512 ![64 * j.val, 0] v hs i = v (iP (64 * j.val + (i 0).val) (i 1)) := by
  unfold extractStridedSlice
  refine congrArg v (funext fun a => Fin.ext ?_)
  have h0 : (i 0).val < 64 := (i 0).isLt
  have hj := j.isLt
  match a with
  | ⟨0, _⟩ => show 64 * j.val + (i 0).val = (64 * j.val + (i 0).val) % 256; omega
  | ⟨1, _⟩ => show 0 + (i 1).val = (i 1).val; omega

/-- The slot that the first step stores, from a half block of products. -/
def firstPay (j : Fin 4) (hs : S256x512.Slices ![64 * j.val, 0] S64x512) (P : FVec F S256x512 .f32) : FVec F S1x1x64x512 .bf16 :=
  shapeCast S1x1x64x512 (truncf .bf16 (extractStridedSlice S64x512 ![64 * j.val, 0] P hs) bitsLt_bf16_f32) shapeCasts_S64x512_S1x1x64x512

/-- The sums of 64 rows of a half block of products and of a received slot. -/
def sumPay (j : Fin 4) (hs : S256x512.Slices ![64 * j.val, 0] S64x512) (P : FVec F S256x512 .f32) (R : Vec F S1x1x64x512 .bf16) :
    FVec F S64x512 .f32 :=
  addf (extractStridedSlice S64x512 ![64 * j.val, 0] P hs) (extf .f32 (shapeCast S64x512 R shapeCasts_S1x1x64x512_S64x512) bitsLt_bf16_f32)

/-- The slot that a later step stores. -/
def nextPay (j : Fin 4) (hs : S256x512.Slices ![64 * j.val, 0] S64x512) (P : FVec F S256x512 .f32) (R : Vec F S1x1x64x512 .bf16) :
    FVec F S1x1x64x512 .bf16 :=
  shapeCast S1x1x64x512 (truncf .bf16 (sumPay j hs P R) bitsLt_bf16_f32) shapeCasts_S64x512_S1x1x64x512

/-- The rows of the result that the last step stores. -/
def outPay (j : Fin 4) (hs : S256x512.Slices ![64 * j.val, 0] S64x512) (P : FVec F S256x512 .f32) (R : Vec F S1x1x64x512 .bf16) :
    FVec F S64x512 .f32 := fun i => act (sumPay j hs P R i)

theorem firstPay_eq (d : Bool) (c : Dev nD) (j : Fin 4) (hs : S256x512.Slices ![64 * j.val, 0] S64x512) :
    firstPay j hs (part x w d (chunk d 0 c) c) = slotBlk (sentBuf x w d c) 0 j := by
  funext i
  unfold firstPay
  rw [cast_slot]
  unfold truncf
  rw [rows64]
  rfl

theorem sumPay_apply (d : Bool) (h : Fin 3) (c c' : Dev nD) (j : Fin 4) (hs : S256x512.Slices ![64 * j.val, 0] S64x512)
    (P : FVec F S256x512 .f32) (i : S64x512.Idx) :
    sumPay j hs P (slotBlk (sentBuf x w d c') h j) i
      = addf P (extf .f32 (sent x w d h.val c') bitsLt_bf16_f32) (iP (64 * j.val + (i 0).val) (i 1)) := by
  unfold sumPay addf extf
  rw [rows64, cast_rows]
  rfl

theorem nextPay_eq (d : Bool) (h h' : Fin 3) (hh : h'.val = h.val + 1) (c : Dev nD) (j : Fin 4)
    (hs : S256x512.Slices ![64 * j.val, 0] S64x512) :
    nextPay j hs (part x w d (chunk d h'.val c) c) (slotBlk (sentBuf x w d (src d c)) h j) = slotBlk (sentBuf x w d c) h' j := by
  funext i
  unfold nextPay
  rw [cast_slot]
  unfold truncf
  rw [sumPay_apply x w d h c (src d c) j hs, hh]
  show _ = sent x w d h'.val c _
  rw [hh]
  rfl

theorem outPay_eq (d : Bool) (c : Dev nD) (j : Fin 4) (hs : S256x512.Slices ![64 * j.val, 0] S64x512) :
    outPay j hs (part x w d c.val c) (slotBlk (sentBuf x w d (src d c)) 2 j) = outRows x w d j c := by
  funext i
  unfold outPay
  rw [sumPay_apply x w d 2 c (src d c) j hs]
  rfl

theorem pay7_eq : @k0_pay7 F _ = k0_pay1 := rfl
theorem pay12_eq : @k0_pay12 F _ = k0_pay1 := rfl
theorem pay13_eq : @k0_pay13 F _ = k0_pay1 := rfl
theorem pay24_eq : @k0_pay24 F _ = k0_pay1 := rfl
theorem pay25_eq : @k0_pay25 F _ = k0_pay1 := rfl
theorem pay36_eq : @k0_pay36 F _ = k0_pay1 := rfl
theorem pay37_eq : @k0_pay37 F _ = k0_pay1 := rfl

theorem pay3_eq (X : Vec F S256x256 .f32) (W : Vec F S256x512 .f32) :
    k0_pay3 (k0_pay2 X W) = firstPay 0 slices_S256x512_o0_0_S64x512 (k0_pay1 X W) := rfl
theorem pay4_eq (P : FVec F S256x512 .f32) : k0_pay4 P = firstPay 1 slices_S256x512_o64_0_S64x512 P := rfl
theorem pay8_eq (X : Vec F S256x256 .f32) (W : Vec F S256x512 .f32) :
    k0_pay8 X W = firstPay 0 slices_S256x512_o0_0_S64x512 (k0_pay1 X W) := rfl
theorem pay14_eq (P : FVec F S256x512 .f32) (R : Vec F S1x1x64x512 .bf16) : k0_pay14 P R = nextPay 0 slices_S256x512_o0_0_S64x512 P R := rfl
theorem pay34_eq (P : FVec F S256x512 .f32) (R : Vec F S1x1x64x512 .bf16) :
    k0_pay34 (k0_pay32 P) (k0_pay33 R) = nextPay 3 slices_S256x512_o192_0_S64x512 P R := rfl
theorem pay38_eq (P : FVec F S256x512 .f32) (R : Vec F S1x1x64x512 .bf16) : k0_pay38 P R = outPay 0 slices_S256x512_o0_0_S64x512 P R := rfl
theorem pay47_eq (P : FVec F S256x512 .f32) (R : Vec F S1x1x64x512 .bf16) :
    k0_pay47 (k0_pay46 P R) = outPay 3 slices_S256x512_o192_0_S64x512 P R := rfl

end Cert.KernelIdeal.Ring

end
-- ==== Proof.RingIdeal.Slots.lean ====
/- The kernel's communication buffers, semaphores and result buffer, each cut into the pieces that one copy or one
   store touches, and how contents are read and written piece by piece. -/
module

public import proofs.«01_k».proof.Proof.RingIdeal.Vals
public import Idealize.ShloMosaic.Lib.Pipeline.Launch
public import Idealize.ShloMosaic.Lib.Tactic

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The ring protocol's ghost state. -/
abbrev UB : Type := URounds (GSem nD τ sig) Bool
/-- The pipeline's ghost state and the ring protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Slots -/

/-- A lane, a step and a quarter: which of the 24 transfers that a device makes. -/
abbrev Slot : Type := Bool × Fin 3 × Fin 4

/-- The send buffer of a lane, -/
abbrev sM (d : Bool) : Memref sig .tc .vmem S3x4x64x512 .bf16 := match d with
  | false => Memref.whole cc0_scratch0
  | true => Memref.whole cc0_scratch2
/-- its receive buffer, -/
abbrev rM (d : Bool) : Memref sig .tc .vmem S3x4x64x512 .bf16 := match d with
  | false => Memref.whole cc0_scratch1
  | true => Memref.whole cc0_scratch3
/-- its send semaphores -/
abbrev sS (d : Bool) : DmaSems sig S3x4 := match d with
  | false => cc0_scratch4
  | true => cc0_scratch6
/-- and its receive semaphores. -/
abbrev rS (d : Bool) : DmaSems sig S3x4 := match d with
  | false => cc0_scratch5
  | true => cc0_scratch7

theorem slot_inb (h : Fin 3) (j : Fin 4) (a : Fin 4) : (![h.val, j.val, 0, 0] : Fin 4 → ℕ) a + S1x1x64x512.size a ≤ S3x4x64x512.size a := by
  revert h j a; decide
theorem sem_inb (h : Fin 3) (j : Fin 4) (a : Fin 2) : (![h.val, j.val] : Fin 2 → ℕ) a + S1x1.size a ≤ S3x4.size a := by
  revert h j a; decide

/-- A slot's rectangle of a communication buffer. -/
abbrev slotR (h : Fin 3) (j : Fin 4) : Rect S3x4x64x512 := Rect.unit (s := S3x4x64x512) ![h.val, j.val, 0, 0] S1x1x64x512.size (slot_inb h j)

/-- A slot of a communication buffer, as the copies name it. -/
abbrev slotV (M : Memref sig .tc .vmem S3x4x64x512 .bf16) (h : Fin 3) (j : Fin 4) : Memref sig .tc .vmem S64x512 .bf16 :=
  (M.slice (slotR h j) (fun _ => rfl)).squeeze S64x512 squeezes_S1x1x64x512_S64x512

/-- A slot's semaphore of an array of semaphores. -/
abbrev slotQ (A : DmaSems sig S3x4) (h : Fin 3) (j : Fin 4) : DmaSem sig :=
  ((A.slice (Rect.unit (s := S3x4) ![h.val, j.val] S1x1.size (sem_inb h j))).squeeze S_ squeezes_S1x1_S_).sem

theorem slot_set (M : Memref sig .tc .vmem S3x4x64x512 .bf16) (h : Fin 3) (j : Fin 4) :
    (slotV M h j).view.set = (M.access (slotR h j)).set := View.set_reshape _ _

/-- The credit of one slot's copy. -/
def N : ℕ := (slotV (rM false) 0 0).view.dmaCredit
theorem N_pos : 0 < N := View.dmaCredit_pos _ (by decide)
theorem credit_r (d : Bool) (h : Fin 3) (j : Fin 4) : (slotV (rM d) h j).view.dmaCredit = N := by cases d <;> rfl
theorem credit_s (d : Bool) (h : Fin 3) (j : Fin 4) : (slotV (sM d) h j).view.dmaCredit = N := by cases d <;> rfl

/-! ## Contents -/

variable (m : (ℓ : Loc nD τ sig) → Buf (Elt F) ℓ)

/-- The contents of a communication buffer that read as `f`. -/
def bufOf (M : Memref sig .tc .vmem S3x4x64x512 .bf16) (c : Dev nD) (f : S3x4x64x512.Idx → F .bf16) : Buf (Elt F) (M.view.loc (c : Thread nD τ)) :=
  M.view.write (Elt F) (m (M.view.loc (c : Thread nD τ))) f Finset.univ

theorem read_bufOf (M : Memref sig .tc .vmem S3x4x64x512 .bf16) (c : Dev nD) (f : S3x4x64x512.Idx → F .bf16) :
    M.view.read (Elt F) (bufOf m M c f) = f := View.read_write_univ _ _

/-- Writing through a view what other contents read there makes the contents agree under the view. -/
theorem write_agree {s : Shape} {e : EltTy} (v : View sig .tc .vmem s e) (f g : v.ty.Contents (Elt F)) (u : s.Idx → Elt F e)
    (hu : u = v.read (Elt F) g) : ∀ i ∈ v.set, v.write (Elt F) f u Finset.univ i = g i := by
  subst hu
  intro i hi
  rw [View.write_read_eq_piecewise, View.setOn_univ, Finset.piecewise_eq_of_mem _ _ _ hi]

theorem slot_emb (h : Fin 3) (j : Fin 4) (i : S1x1x64x512.Idx) :
    (slotR h j).emb i = (fun | ⟨0, _⟩ => h | ⟨1, _⟩ => j | ⟨2, _⟩ => i 2 | ⟨3, _⟩ => i 3 : S3x4x64x512.Idx) := by
  have h0 : (i 0).val < 1 := (i 0).isLt
  have h1 : (i 1).val < 1 := (i 1).isLt
  funext a
  apply Fin.ext
  match a with
  | ⟨0, _⟩ => show h.val + 1 * (i 0).val = h.val; omega
  | ⟨1, _⟩ => show j.val + 1 * (i 1).val = j.val; omega
  | ⟨2, _⟩ => show 0 + 1 * (i 2).val = (i 2).val; omega
  | ⟨3, _⟩ => show 0 + 1 * (i 3).val = (i 3).val; omega

/-- What a load of a slot reads. -/
theorem read_slot (M : Memref sig .tc .vmem S3x4x64x512 .bf16) (c : Dev nD) (f : S3x4x64x512.Idx → F .bf16) (h : Fin 3) (j : Fin 4) :
    (M.access (slotR h j)).read (Elt F) (bufOf m M c f) = slotBlk f h j := by
  funext i
  show M.view.read (Elt F) (bufOf m M c f) ((slotR h j).emb i) = _
  rw [read_bufOf, slot_emb]
  rfl

/-- A slot reads the same in any two buffers that hold the same. -/
theorem read_slotV (M M' : Memref sig .tc .vmem S3x4x64x512 .bf16) (c c' : Dev nD) (f : S3x4x64x512.Idx → F .bf16) (h : Fin 3) (j : Fin 4) :
    (slotV M h j).view.read (Elt F) (bufOf m M c f) = (slotV M' h j).view.read (Elt F) (bufOf m M' c' f) := by
  funext i
  show M.view.read (Elt F) (bufOf m M c f) _ = M'.view.read (Elt F) (bufOf m M' c' f) _
  rw [read_bufOf, read_bufOf]

/-! ## Ownership of a slot -/

/-- Slot `(h, j)` of buffer `M` of device `c`, with the contents that `f` has there. -/
def pts (c : Dev nD) (M : Memref sig .tc .vmem S3x4x64x512 .bf16) (h : Fin 3) (j : Fin 4) (f : Buf (Elt F) (M.view.loc (c : Thread nD τ))) : sProp 𝕄 :=
  M.view.loc (c : Thread nD τ) ↦[(M.access (slotR h j)).set]{fullShare} f

instance pts_storable (c : Dev nD) (M : Memref sig .tc .vmem S3x4x64x512 .bf16) (h : Fin 3) (j : Fin 4) (f : Buf (Elt F) (M.view.loc (c : Thread nD τ))) :
    BI.Storable (upEmb : UEmb _ 𝕄) (pts c M h j f) := by unfold pts; infer_instance

theorem pts_slotV (c : Dev nD) (M : Memref sig .tc .vmem S3x4x64x512 .bf16) (h : Fin 3) (j : Fin 4) (f : Buf (Elt F) (M.view.loc (c : Thread nD τ))) :
    pts c M h j f = ((slotV M h j).view.loc (c : Thread nD τ) ↦[(slotV M h j).view.set]{fullShare} f : sProp 𝕄) := by
  unfold pts; rw [slot_set]

theorem slots_cover : (Finset.univ : Finset (Fin 3 × Fin 4)).biUnion (fun p => (slotR p.1 p.2).set) = Finset.univ := by
  ext i
  refine ⟨fun _ => Finset.mem_univ _, fun _ => Finset.mem_biUnion.mpr ⟨(i 0, i 1), Finset.mem_univ _, Rect.mem_set_unit.mpr fun a => ?_⟩⟩
  have h0 : (i 0).val < 3 := (i 0).isLt
  have h1 : (i 1).val < 4 := (i 1).isLt
  have h2 : (i 2).val < 64 := (i 2).isLt
  have h3 : (i 3).val < 512 := (i 3).isLt
  match a with
  | ⟨0, _⟩ => show (i 0).val ≤ (i 0).val ∧ (i 0).val < (i 0).val + 1; omega
  | ⟨1, _⟩ => show (i 1).val ≤ (i 1).val ∧ (i 1).val < (i 1).val + 1; omega
  | ⟨2, _⟩ => show 0 ≤ (i 2).val ∧ (i 2).val < 0 + 64; omega
  | ⟨3, _⟩ => show 0 ≤ (i 3).val ∧ (i 3).val < 0 + 512; omega

theorem slots_disjoint (p p' : Fin 3 × Fin 4) (hp : p ≠ p') : Disjoint (slotR p.1 p.2).set (slotR p'.1 p'.2).set := by
  rw [Finset.disjoint_left]
  intro i h h'
  have e := fun a => Rect.mem_set_unit.mp h a
  have e' := fun a => Rect.mem_set_unit.mp h' a
  have a0 : p.1.val ≤ (i 0).val ∧ (i 0).val < p.1.val + 1 := e 0
  have b0 : p'.1.val ≤ (i 0).val ∧ (i 0).val < p'.1.val + 1 := e' 0
  have a1 : p.2.val ≤ (i 1).val ∧ (i 1).val < p.2.val + 1 := e 1
  have b1 : p'.2.val ≤ (i 1).val ∧ (i 1).val < p'.2.val + 1 := e' 1
  exact hp (Prod.ext (Fin.ext (by omega)) (Fin.ext (by omega)))

/-- A memref cut into disjoint rectangles that cover it is owned rectangle by rectangle. -/
theorem cut_eq {s : Shape} {e : EltTy} {T : Type} [Fintype T] (c : Dev nD) (M : Memref sig .tc .vmem s e) (R : T → Rect s)
    (hc : (Finset.univ : Finset T).biUnion (fun p => (R p).set) = Finset.univ) (hd : ∀ p p', p ≠ p' → Disjoint (R p).set (R p').set)
    (f : Buf (Elt F) (M.view.loc (c : Thread nD τ))) :
    (M.view.loc (c : Thread nD τ) ↦[M.view.set]{fullShare} f : sProp 𝕄)
      = bigSep Finset.univ fun p : T => M.view.loc (c : Thread nD τ) ↦[(M.access (R p)).set]{fullShare} f := by
  rw [show M.view.set = (Finset.univ : Finset T).biUnion (fun p => (M.access (R p)).set) from ?_]
  · exact pointsTo_biUnion _ _ fun p _ p' _ hp => by
      rw [View.set_slice, View.set_slice]; exact (Finset.disjoint_map _).mpr (hd p p' hp)
  · ext i
    constructor
    · intro hi
      obtain ⟨k, -, rfl⟩ := Finset.mem_map.mp hi
      obtain ⟨p, hp, hk⟩ := Finset.mem_biUnion.mp (by rw [hc]; exact Finset.mem_univ k)
      exact Finset.mem_biUnion.mpr ⟨p, hp, by rw [View.set_slice]; exact Finset.mem_map_of_mem _ hk⟩
    · intro hi
      obtain ⟨p, -, hk⟩ := Finset.mem_biUnion.mp hi
      exact View.set_slice_subset _ _ hk

/-- A whole communication buffer is its slots. -/
theorem whole_eq_slots (c : Dev nD) (M : Memref sig .tc .vmem S3x4x64x512 .bf16) (f : Buf (Elt F) (M.view.loc (c : Thread nD τ))) :
    (M.view.loc (c : Thread nD τ) ↦[M.view.set]{fullShare} f : sProp 𝕄)
      = bigSep Finset.univ fun p : Fin 3 × Fin 4 => pts c M p.1 p.2 f :=
  cut_eq c M (fun p : Fin 3 × Fin 4 => slotR p.1 p.2) slots_cover slots_disjoint f

/-! ## The result's buffer -/

/-- The staged result. -/
abbrev oM : Memref sig .tc .vmem S256x1024 .f32 := Memref.whole cc0_stg2_0

/-- The column at which a lane's half of the result begins. -/
abbrev col (d : Bool) : ℕ := match d with | false => 0 | true => 512

theorem out_inb (d : Bool) (j : Fin 4) (a : Fin 2) : (![64 * j.val, col d] : Fin 2 → ℕ) a + S64x512.size a ≤ S256x1024.size a := by
  revert d j a; decide

/-- The rectangle of the result that one store writes. -/
abbrev outR (d : Bool) (j : Fin 4) : Rect S256x1024 := Rect.unit (s := S256x1024) ![64 * j.val, col d] S64x512.size (out_inb d j)

/-- That rectangle of device `c`'s staged result, holding what `f` holds there. -/
def opts (c : Dev nD) (d : Bool) (j : Fin 4) (f : S256x1024.Idx → F .f32) : sProp 𝕄 :=
  oM.view.loc (c : Thread nD τ) ↦[(oM.access (outR d j)).set]{fullShare} f

theorem outs_cover : (Finset.univ : Finset (Bool × Fin 4)).biUnion (fun p => (outR p.1 p.2).set) = Finset.univ := by
  ext i
  have h0 : (i 0).val < 256 := (i 0).isLt
  have h1 : (i 1).val < 1024 := (i 1).isLt
  refine ⟨fun _ => Finset.mem_univ _, fun _ => Finset.mem_biUnion.mpr
    ⟨(decide (512 ≤ (i 1).val), ⟨(i 0).val / 64, by omega⟩), Finset.mem_univ _, Rect.mem_set_unit.mpr fun a => ?_⟩⟩
  match a with
  | ⟨0, _⟩ => show 64 * ((i 0).val / 64) ≤ (i 0).val ∧ (i 0).val < 64 * ((i 0).val / 64) + 64; omega
  | ⟨1, _⟩ =>
    show col (decide (512 ≤ (i 1).val)) ≤ (i 1).val ∧ (i 1).val < col (decide (512 ≤ (i 1).val)) + 512
    by_cases h : 512 ≤ (i 1).val
    · rw [decide_eq_true h]; show 512 ≤ (i 1).val ∧ (i 1).val < 512 + 512; omega
    · rw [decide_eq_false h]; show 0 ≤ (i 1).val ∧ (i 1).val < 0 + 512; omega

theorem outs_disjoint (p p' : Bool × Fin 4) (hp : p ≠ p') : Disjoint (outR p.1 p.2).set (outR p'.1 p'.2).set := by
  rw [Finset.disjoint_left]
  intro i h h'
  obtain ⟨d, j⟩ := p
  obtain ⟨d', j'⟩ := p'
  have e := fun a => Rect.mem_set_unit.mp h a
  have e' := fun a => Rect.mem_set_unit.mp h' a
  have a0 : 64 * j.val ≤ (i 0).val ∧ (i 0).val < 64 * j.val + 64 := e 0
  have b0 : 64 * j'.val ≤ (i 0).val ∧ (i 0).val < 64 * j'.val + 64 := e' 0
  have a1 : col d ≤ (i 1).val ∧ (i 1).val < col d + 512 := e 1
  have b1 : col d' ≤ (i 1).val ∧ (i 1).val < col d' + 512 := e' 1
  have hj : j = j' := Fin.ext (by omega)
  subst hj
  cases d <;> cases d' <;> first | exact hp rfl | (simp only [col] at a1 b1; omega)

/-- The staged result is its eight rectangles. -/
theorem out_eq_rects (c : Dev nD) (f : S256x1024.Idx → F .f32) :
    (oM.view.loc (c : Thread nD τ) ↦[oM.view.set]{fullShare} f : sProp 𝕄)
      = bigSep Finset.univ fun p : Bool × Fin 4 => opts c p.1 p.2 f :=
  cut_eq c oM (fun p : Bool × Fin 4 => outR p.1 p.2) outs_cover outs_disjoint f

/-- A rectangle of the finished result. -/
theorem read_out (x : Dev nD → S1024x256.Idx → F .f32) (w : Dev nD → S256x1024.Idx → F .f32) (c : Dev nD) (d : Bool) (j : Fin 4) :
    outRows x w d j c = (oM.access (outR d j)).read (Elt F) (outC x w c : S256x1024.Idx → F .f32) := by
  funext i
  have h0 : (i 0).val < 64 := (i 0).isLt
  have h1 : (i 1).val < 512 := (i 1).isLt
  have hj := j.isLt
  show _ = outC x w c ((outR d j).emb i)
  have e0 : (((outR d j).emb i) 0).val = 64 * j.val + (i 0).val := by show 64 * j.val + 1 * (i 0).val = _; omega
  have e1 : (((outR d j).emb i) 1).val = col d + (i 1).val := by show col d + 1 * (i 1).val = _; omega
  unfold outC outRows
  cases d with
  | false =>
    rw [dif_pos (by rw [e1]; show 0 + (i 1).val < 512; omega)]
    simp only [e0, e1]
    congr 3
    exact Fin.ext (by show (i 1).val = 0 + (i 1).val; omega)
  | true =>
    rw [dif_neg (by rw [e1]; show ¬ 512 + (i 1).val < 512; omega)]
    simp only [e0, e1]
    congr 3
    exact Fin.ext (by show (i 1).val = 512 + (i 1).val - 512; omega)

end Cert.KernelIdeal.Ring

end
-- ==== Proof.RingIdeal.Protocol.lean ====
/- The protocol of the two rings: what every semaphore of a device counts, who adds to it, what each addition hands
   to the device that waits for it, and the order of the waits that rules out a deadlock. -/
module

public import proofs.«01_k».proof.Proof.RingIdeal.Slots

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The arguments as the devices hold them -/

/-- Device `c`'s block of the first argument, as staged. -/
def xv (c : Dev nD) : S1024x256.Idx → F .f32 := (win0_0.blk (0 : Fin 1)).view.read (Elt F) (m ((c : Thread nD τ).loc main_arg0))
/-- Device `c`'s block of the second argument, as staged. -/
def wv (c : Dev nD) : S256x1024.Idx → F .f32 := (win0_1.blk (0 : Fin 1)).view.read (Elt F) (m ((c : Thread nD τ).loc main_arg1))

/-- What slot `s` of device `c`'s send buffer is sent holding. -/
abbrev sendC (c : Dev nD) (d : Bool) : Buf (Elt F) ((sM d).view.loc (c : Thread nD τ)) := bufOf m (sM d) c (sentBuf (xv m) (wv m) d c)
/-- What device `c`'s receive buffer is received holding. -/
abbrev recvC (c : Dev nD) (d : Bool) : Buf (Elt F) ((rM d).view.loc (c : Thread nD τ)) := bufOf m (rM d) c (sentBuf (xv m) (wv m) d (src d c))

/-! ## The cells -/

/-- The semaphore that a device's two neighbours raise before anything is sent. -/
abbrev barS : Sem sig := (SemArray.scalar (sig.barrier 0 rfl) : Sems sig S_).sem

/-- A slot's send semaphore (`false`) or receive semaphore (`true`). -/
abbrev osem (k : Slot × Bool) : SemLoc sig := match k with
  | ((d, h, j), false) => .dma (slotQ (sS d) h j)
  | ((d, h, j), true) => .dma (slotQ (rS d) h j)

/-- All of a device's semaphores: the one of the handshake and two for each slot. -/
abbrev csem : Option (Slot × Bool) → SemLoc sig
  | none => .reg barS
  | some k => osem k

abbrev barCell (c : Dev nD) : GSem nD τ sig := ((c : Thread nD τ), .reg barS)
abbrev sendCell (c : Dev nD) (s : Slot) : GSem nD τ sig := ((c : Thread nD τ), .dma (slotQ (sS s.1) s.2.1 s.2.2))
abbrev recvCell (c : Dev nD) (s : Slot) : GSem nD τ sig := ((c : Thread nD τ), .dma (slotQ (rS s.1) s.2.1 s.2.2))
abbrev kcell (ck : Dev nD × Option (Slot × Bool)) : GSem nD τ sig := ((ck.1 : Thread nD τ), csem ck.2)

/-- Which slot's semaphore a semaphore is. -/
def decode : SemLoc sig → Option (Slot × Bool)
  | .reg _ => none
  | .dma q => if 3 ≤ q.val then
      some ((decide ((q.val - 3) / 24 = 1), Fin.ofNat 3 ((q.val - 3) % 12 / 4), Fin.ofNat 4 ((q.val - 3) % 4)), decide ((q.val - 3) % 24 / 12 = 1))
    else none

theorem decode_osem (k : Slot × Bool) : decode (osem k) = some k := by
  revert k; decide

theorem decode_send (s : Slot) : decode (.dma (slotQ (sS s.1) s.2.1 s.2.2)) = some (s, false) := decode_osem (s, false)
theorem decode_recv (s : Slot) : decode (.dma (slotQ (rS s.1) s.2.1 s.2.2)) = some (s, true) := decode_osem (s, true)

theorem osem_injective : Function.Injective osem := fun k k' h =>
  Option.some.inj ((decode_osem k).symm.trans ((congrArg decode h).trans (decode_osem k')))

theorem osem_ne_bar (k : Slot × Bool) : osem k ≠ .reg barS := fun h => by
  have := congrArg decode h; rw [decode_osem] at this; exact absurd this (by intro h; cases h)

theorem csem_injective : Function.Injective csem := by
  rintro (_ | k) (_ | k') h
  · rfl
  · exact absurd h.symm (osem_ne_bar k')
  · exact absurd h (osem_ne_bar k)
  · exact congrArg some (osem_injective h)

theorem kcell_injective : Function.Injective (kcell : Dev nD × Option (Slot × Bool) → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ## The schedule -/

/-- The handshake of lane `d` hands device `c` the receive buffer that it will send to in that lane. -/
def barPay (c : Dev nD) (d : Bool) : sProp 𝕄 :=
  iprop(∃ f, (rM d).view.loc (dst d c : Thread nD τ) ↦[(rM d).view.set]{fullShare} f)
/-- A completed send hands the slot of the send buffer back, as it was sent. -/
def sendPay (c : Dev nD) (s : Slot) : sProp 𝕄 := pts c (sM s.1) s.2.1 s.2.2 (sendC m c s.1)
/-- A landed copy hands over the slot of the receive buffer, holding what the device before sent. -/
def recvPay (c : Dev nD) (s : Slot) : sProp 𝕄 := pts c (rM s.1) s.2.1 s.2.2 (recvC m c s.1)

/-- One round: two additions of one unit to the semaphore of the handshake, one of a slot's credit to every other. -/
def ringRd : Rounds.Schedule (GSem nD τ sig) Bool 𝕄 where
  duties g r := if r = 0 ∧ g.1.2 = .tc then (if g.2 = .reg barS then Finset.univ else if (decode g.2).isSome then {false} else ∅) else ∅
  unitless _ := False
  amount g _ _ := if g.2 = .reg barS then 1 else N
  payload g _ d :=
    if g.2 = .reg barS then barPay g.1.1 d
    else match decode g.2 with
      | some (s, false) => sendPay m g.1.1 s
      | some (s, true) => recvPay m g.1.1 s
      | none => iprop(emp)
  amount_pos g _ _ _ := by
    by_cases h : g.2 = .reg barS
    · rw [if_pos h]; exact Nat.one_pos
    · rw [if_neg h]; exact N_pos

instance ringRd_payload_storable (g : GSem nD τ sig) (r : ℕ) (d : Bool) :
    BI.Storable (upEmb : UEmb _ 𝕄) ((ringRd (F := F) m).payload g r d) := by
  show BI.Storable upEmb (if g.2 = .reg barS then barPay g.1.1 d
    else match decode g.2 with
      | some (s, false) => sendPay m g.1.1 s
      | some (s, true) => recvPay m g.1.1 s
      | none => iprop(emp))
  unfold barPay sendPay recvPay
  (repeat' split) <;> infer_instance

variable (c : Dev nD) (s : Slot)

theorem send_ne_bar : (SemLoc.dma (slotQ (sS s.1) s.2.1 s.2.2) : SemLoc sig) ≠ .reg barS := osem_ne_bar (s, false)
theorem recv_ne_bar : (SemLoc.dma (slotQ (rS s.1) s.2.1 s.2.2) : SemLoc sig) ≠ .reg barS := osem_ne_bar (s, true)

theorem duties_bar : (ringRd (F := F) m).duties (barCell c) 0 = Finset.univ := by
  dsimp only [ringRd]; rw [if_pos ⟨rfl, rfl⟩, if_pos rfl]
theorem duties_send : (ringRd (F := F) m).duties (sendCell c s) 0 = {false} := by
  dsimp only [ringRd]; rw [if_pos ⟨rfl, rfl⟩, if_neg (send_ne_bar s), decode_send]; rfl
theorem duties_recv : (ringRd (F := F) m).duties (recvCell c s) 0 = {false} := by
  dsimp only [ringRd]; rw [if_pos ⟨rfl, rfl⟩, if_neg (recv_ne_bar s), decode_recv]; rfl
theorem duties_later (g : GSem nD τ sig) : ∀ r, 1 ≤ r → (ringRd (F := F) m).duties g r = ∅ :=
  fun r hr => by dsimp only [ringRd]; rw [if_neg fun h => by omega]

theorem amount_bar (d : Bool) : (ringRd (F := F) m).amount (barCell c) 0 d = 1 := by dsimp only [ringRd]; exact if_pos rfl
theorem amount_send (d : Bool) : (ringRd (F := F) m).amount (sendCell c s) 0 d = N := by dsimp only [ringRd]; exact if_neg (send_ne_bar s)
theorem amount_recv (d : Bool) : (ringRd (F := F) m).amount (recvCell c s) 0 d = N := by dsimp only [ringRd]; exact if_neg (recv_ne_bar s)

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (ringRd (F := F) m).expect (sendCell c s) 0 = N := by
  unfold Schedule.expect Schedule.amountOf; rw [duties_send, Finset.sum_singleton, amount_send]
theorem expect_recv : (ringRd (F := F) m).expect (recvCell c s) 0 = N := by
  unfold Schedule.expect Schedule.amountOf; rw [duties_recv, Finset.sum_singleton, amount_recv]

theorem payload_bar (d : Bool) : (ringRd (F := F) m).payload (barCell c) 0 d = barPay c d := by dsimp only [ringRd]; rw [if_pos rfl]
theorem payload_send (d : Bool) : (ringRd (F := F) m).payload (sendCell c s) 0 d = sendPay m c s := by
  dsimp only [ringRd]; rw [if_neg (send_ne_bar s), decode_send]
theorem payload_recv (d : Bool) : (ringRd (F := F) m).payload (recvCell c s) 0 d = recvPay m c s := by
  dsimp only [ringRd]; rw [if_neg (recv_ne_bar s), decode_recv]

/-- The whole round of each kind of semaphore, as its payloads. -/
theorem rest_bar : bigSep ((ringRd (F := F) m).duties (barCell c) 0 \ ∅) (fun d => (ringRd (F := F) m).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send : bigSep ((ringRd (F := F) m).duties (sendCell c s) 0 \ ∅) (fun d => (ringRd (F := F) m).payload (sendCell c s) 0 d) = sendPay m c s := by
  rw [Finset.sdiff_empty, duties_send, bigSep_singleton, payload_send]
theorem rest_recv : bigSep ((ringRd (F := F) m).duties (recvCell c s) 0 \ ∅) (fun d => (ringRd (F := F) m).payload (recvCell c s) 0 d) = recvPay m c s := by
  rw [Finset.sdiff_empty, duties_recv, bigSep_singleton, payload_recv]

/-! ## What each device owes; the levels of the waits -/

/-- The sends still to come, as what they will add to the receive semaphores. -/
def owing : Dev nD → List Slot → CellTallies nD τ sig Unit
  | _, [] => 0
  | c, s :: l => owing c l + tallyAt (recvCell (dst s.1 c) s) () N

/-- The 24 sends in program order. -/
abbrev order : List Slot :=
  [(false, 0, 0), (false, 0, 1), (false, 0, 2), (false, 0, 3), (true, 0, 0), (true, 0, 1), (true, 0, 2), (true, 0, 3),
   (false, 1, 0), (true, 1, 0), (false, 1, 1), (true, 1, 1), (false, 1, 2), (true, 1, 2), (false, 1, 3), (true, 1, 3),
   (false, 2, 0), (true, 2, 0), (false, 2, 1), (true, 2, 1), (false, 2, 2), (true, 2, 2), (false, 2, 3), (true, 2, 3)]

theorem order_univ : (Finset.univ : Finset Slot) = order.toFinset := by decide
theorem order_nodup : order.Nodup := by decide

/-- All that device `c` owes at launch: its sends, and a unit to each neighbour's handshake. -/
def O₁ : CellTallies nD τ sig Unit := owing c order + tallyAt (barCell (src true c)) () 1
def O₀ : CellTallies nD τ sig Unit := O₁ c + tallyAt (barCell (src false c)) () 1

def L (g : GSem nD τ sig) : Finset Unit := if g.1.2 = .tc then {()} else ∅
/-- The handshake is waited for first, then the receive semaphores step by step; the others wait for no one. -/
def lv (g : GSem nD τ sig) (_ : Unit) : ℕ :=
  if g.2 = .reg barS then 1 else match decode g.2 with
    | some (s, true) => 2 + s.2.1.val
    | _ => 0

theorem L_of_ne (g : GSem nD τ sig) (h : g.1.2 ≠ .tc) : L g = ∅ := if_neg h
theorem L_tc (sm : SemLoc sig) : L ((c : Thread nD τ), sm) = {()} := if_pos rfl
theorem mem_L (sm : SemLoc sig) (u : Unit) : u ∈ L ((c : Thread nD τ), sm) := by rw [L_tc]; exact Finset.mem_singleton_self _

theorem lv_bar : lv (barCell c) () = 1 := if_pos rfl
theorem lv_send : lv (sendCell c s) () = 0 := by unfold lv; rw [if_neg (send_ne_bar s)]; simp only [decode_send]
theorem lv_recv : lv (recvCell c s) () = 2 + s.2.1.val := by unfold lv; rw [if_neg (recv_ne_bar s)]; simp only [decode_recv]

/-- What an owed sum owes, one of its parts owes. -/
theorem pos_of_add_tally (A : CellTallies nD τ sig Unit) (g' : GSem nD τ sig) (k : ℕ) {g : GSem nD τ sig} {u : Unit}
    (h : 0 < (A + tallyAt g' () k) g u) : 0 < A g u ∨ g = g' := by
  rw [Pi.add_apply, Finsupp.add_apply, tallyAt_apply] at h
  by_cases h1 : g = g' ∧ u = ()
  · exact .inr h1.1
  · rw [if_neg h1] at h; exact .inl h

theorem owing_pos (l : List Slot) {g : GSem nD τ sig} {u : Unit} (h : 0 < owing c l g u) : ∃ s ∈ l, g = recvCell (dst s.1 c) s := by
  induction l with
  | nil => exact absurd h (Nat.lt_irrefl 0)
  | cons s l ih =>
    rcases pos_of_add_tally _ _ _ h with h | h
    · obtain ⟨s', hs', e⟩ := ih h
      exact ⟨s', List.mem_cons_of_mem _ hs', e⟩
    · exact ⟨s, List.mem_cons_self, h⟩

theorem O₀_pos {g : GSem nD τ sig} {u : Unit} (h : 0 < O₀ c g u) :
    (∃ s : Slot, g = recvCell (dst s.1 c) s) ∨ g = barCell (src true c) ∨ g = barCell (src false c) := by
  rcases pos_of_add_tally (O₁ c) _ _ h with h | h
  · rcases pos_of_add_tally (owing c order) _ _ h with h | h
    · obtain ⟨s, -, e⟩ := owing_pos c order h
      exact .inl ⟨s, e⟩
    · exact .inr (.inl h)
  · exact .inr (.inr h)

/-- A semaphore of the pipeline may be waited on at any time. -/
theorem mayWait_stage (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · have h0 : lv ((c : Thread nD τ), .dma q) () = 0 := by
      unfold lv; rw [if_neg (fun h => by cases h)]; simp only [decode]; rw [if_neg (by omega)]
    refine Pipeline.mayWait_of_levAts (mem_L c _ _) fun g u hg => ?_
    rw [h0]
    rcases O₀_pos c hg with ⟨s, rfl⟩ | rfl | rfl
    · exact ⟨mem_L _ _ _, by rw [lv_recv]; omega⟩
    · exact ⟨mem_L _ _ _, by rw [lv_bar]; omega⟩
    · exact ⟨mem_L _ _ _, by rw [lv_bar]; omega⟩
  · rw [MayWait_zero]; iintro -; iempintro

/-- A send may be waited for at any time. -/
theorem mayWait_send (l : List Slot) : (levAts L lv : sProp 𝕄) ⊢ MayWait (c : Thread nD τ) (.dma (slotQ (sS s.1) s.2.1 s.2.2)) () (owing c l) :=
  Pipeline.mayWait_of_levAts (mem_L c _ _) fun g u hg => by
    obtain ⟨s', -, rfl⟩ := owing_pos c l hg
    exact ⟨mem_L _ _ _, by rw [lv_send, lv_recv]; omega⟩

/-- A receive may be waited for once every send still to come belongs to a later step. -/
theorem mayWait_recv (l : List Slot) (hl : ∀ s' ∈ l, s.2.1 < s'.2.1) :
    (levAts L lv : sProp 𝕄) ⊢ MayWait (c : Thread nD τ) (.dma (slotQ (rS s.1) s.2.1 s.2.2)) () (owing c l) :=
  Pipeline.mayWait_of_levAts (mem_L c _ _) fun g u hg => by
    obtain ⟨s', hs', rfl⟩ := owing_pos c l hg
    have h := hl s' hs'
    exact ⟨mem_L _ _ _, by rw [lv_recv, lv_recv]; have : s.2.1.val < s'.2.1.val := h; omega⟩

/-- The handshake may be waited for before any send. -/
theorem mayWait_bar (l : List Slot) : (levAts L lv : sProp 𝕄) ⊢ MayWait (c : Thread nD τ) (.reg barS) () (owing c l) :=
  Pipeline.mayWait_of_levAts (mem_L c _ _) fun g u hg => by
    obtain ⟨s', -, rfl⟩ := owing_pos c l hg
    exact ⟨mem_L _ _ _, by rw [lv_bar, lv_recv]; omega⟩

end Cert.KernelIdeal.Ring

end
-- ==== Proof.RingIdeal.Steps.lean ====
/- The steps of the body, one lemma for each thing that a device does with a slot: fill it and send it, wait for it and
   read what arrived, multiply two blocks, write a rectangle of the result. -/
module

public import proofs.«01_k».proof.Proof.RingIdeal.Protocol

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program's weakest precondition on device `c`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What all the steps share -/

/-- One semaphore's invariant, and that it has reached round 0. -/
def record (K : Dev nD × Option (Slot × Bool) → ℕ) (ck : Dev nD × Option (Slot × Bool)) : sProp 𝕄 :=
  iprop(cellInv ER (ringRd m) (K ck) (kcell ck) ∗ reached ER (kcell ck) 0)

instance record_persistent (K : Dev nD × Option (Slot × Bool) → ℕ) (ck : Dev nD × Option (Slot × Bool)) : BI.Persistent (record m K ck) := by
  unfold record; infer_instance

/-- The invariants of all the semaphores of all the devices, and the order of the waits. -/
def ctx (K : Dev nD × Option (Slot × Bool) → ℕ) : sProp 𝕄 := iprop(bigSep Finset.univ (record m K) ∗ levAts L lv)

instance ctx_persistent (K : Dev nD × Option (Slot × Bool) → ℕ) : BI.Persistent (ctx m K) := by unfold ctx; infer_instance

variable (K : Dev nD × Option (Slot × Bool) → ℕ)

theorem ctx_lev : ctx m K ⊢ levAts L lv := by unfold ctx; iintro ⟨-, H⟩; iexact H
theorem ctx_record (ck : Dev nD × Option (Slot × Bool)) : ctx m K ⊢ record m K ck :=
  (show ctx m K ⊢ bigSep Finset.univ (record m K) by unfold ctx; iintro ⟨H, -⟩; iexact H).trans (bigSep_elim (Finset.mem_univ ck))
theorem ctx_cell (ck : Dev nD × Option (Slot × Bool)) : ctx m K ⊢ cellInv ER (ringRd m) (K ck) (kcell ck) :=
  (ctx_record m K ck).trans (by unfold record; iintro ⟨H, -⟩; iexact H)
theorem ctx_reached (ck : Dev nD × Option (Slot × Bool)) : ctx m K ⊢ reached ER (kcell ck) 0 :=
  (ctx_record m K ck).trans (by unfold record; iintro ⟨-, H⟩; iexact H)

variable (c : Dev nD) (s : Slot) (l : List Slot)

/-- What device `c` still owes, the sends `l` being to come. -/
def Ow : sProp 𝕄 := iprop(∃ W, owes (c : Thread nD τ) (owing c l) W)

/-- What the waits for slot `s` are made with. -/
def waits0 : sProp 𝕄 :=
  iprop(atPos ER (sendCell c s) 0 ∅ 0 ∗ atPos ER (recvCell c s) 0 ∅ 0 ∗ cred (tallyAt (recvCell c s) () N))
/-- Slot `s` before the handshake: the slot of the send buffer, and the right to send it. -/
def idle (c : Dev nD) (s : Slot) : sProp 𝕄 :=
  iprop((∃ f, pts c (sM s.1) s.2.1 s.2.2 f) ∗ dutyTok ER (sendCell c s) 0 false ∗ dutyTok ER (recvCell (dst s.1 c) s) 0 false ∗ waits0 c s)
/-- Slot `s` ready to be sent: with it the slot of the next device's receive buffer. -/
def ready : sProp 𝕄 := iprop((∃ f, pts (dst s.1 c) (rM s.1) s.2.1 s.2.2 f) ∗ idle c s)
/-- Slot `s` on its way. -/
def flying : sProp 𝕄 := iprop(cred (tallyAt (sendCell c s) () N) ∗ waits0 c s)
/-- Slot `s` sent and received: both slots as they are left, both semaphores at zero again. -/
def done : sProp 𝕄 := iprop(sendPay m c s ∗ recvPay m c s ∗ semVal (sendCell c s) 0 ∗ semVal (recvCell c s) 0)

/-! ## The handshake -/

/-- Raising the semaphore of the neighbour that device `c` receives from in lane `d` hands it the receive buffer. -/
theorem wp_ready {α : Type} {Q : α → sProp 𝕄} (d : Bool) (O : CellTallies nD τ sig Unit) (W : Waits sig Unit) (n : Dev nD) (k' : ℤ)
    {k : Unit → Prog (TpuEff nD τ sig (Elt F) Λ₀ .tc) α} (hn : n = src d c) (hk : k' = 1) :
    ctx m K ⊢ iprop(owes (c : Thread nD τ) (O + tallyAt (barCell (src d c)) () 1) W -∗ dutyTok ER (barCell (src d c)) 0 d
      -∗ (∃ f, (rM d).view.loc (c : Thread nD τ) ↦[(rM d).view.set]{fullShare} f)
      -∗ (owes (c : Thread nD τ) O W -∗ wpc c (k ()) Q) -∗ wpc c (.op (.semSignal (n, .tc) barS k') k) Q) := by
  subst hn hk
  iintro #HC HO Ht Hr Hk
  ihave HI := (ctx_cell m K (src d c, none)) $$ HC
  ihave HR := (ctx_reached m K (src d c, none)) $$ HC
  iapply (Rounds.wp_signal 𝒱₀ ER (ringRd m) (c : Thread nD τ) none (dst := (src d c : Thread nD τ)) (κ := K (src d c, none))
      (d := d) (k' := 1) (by rw [duties_bar]; exact Finset.mem_univ _) (amount_bar m (src d c) d) () O rfl) $$ [HO Ht HI HR Hr]
  · isplitl [HI]; · iexact HI
    isplitl [HO]; · iexact HO
    isplitl [Ht]; · iexact Ht
    isplitl [Hr]
    · rw [payload_bar]; unfold barPay; rw [dst_src]; iexact Hr
    iexact HR
  iexact Hk

/-- The wait for both neighbours: their receive buffers come with it. -/
theorem wp_both {α : Type} {Q : α → sProp 𝕄} (W : Waits sig Unit) (k' : ℤ) {k : Unit → Prog (TpuEff nD τ sig (Elt F) Λ₀ .tc) α} (hk : k' = 2) :
    ctx m K ⊢ iprop(owes (c : Thread nD τ) (owing c l) W -∗ cred (tallyAt (barCell c) () 2) -∗ atPos ER (barCell c) 0 ∅ 0
      -∗ ((Ow c l ∗ semVal (barCell c) 0 ∗ barPay c false ∗ barPay c true) -∗ wpc c (k ()) Q) -∗ wpc c (.op (.semWait barS k') k) Q) := by
  subst hk
  iintro #HC HO Hc Hp Hk
  ihave HI := (ctx_cell m K (c, none)) $$ HC
  iapply (Rounds.wp_wait_rest_token 𝒱₀ ER (ringRd m) (c : Thread nD τ) none (κ := K (c, none)) (k' := 2)
      (wpE_semWait_eq 𝒱₀ (c : Thread nD τ) none Set.univ) (Set.mem_univ _) () (O := owing c l) (W := W) (R := 0) (m := 0) (T := ∅)
      (by rw [expect_bar])) $$ [Hc HO Hp]
  · isplitr; · iexact HI
    isplitl [Hc]; · iexact Hc
    isplitl [HO]; · iexact HO
    isplitr; · iapply (mayWait_bar c l); iapply (ctx_lev m K); iexact HC
    iexact Hp
  iintro ⟨HO, Hp, -, Hpay⟩
  ihave Hpay := (Entails.of_eq (rest_bar m c)) $$ Hpay
  imod (Rounds.cell_close ER (ringRd m) (Set.mem_univ (K (c, none))) (fun h => h) (R := 0 + 1) (duties_later m (barCell c))) $$ [Hp] with Hz
  · isplitr; · iexact HI
    iexact Hp
  iapply Hk
  icases Hpay with ⟨H1, H2⟩
  isplitl [HO]; · unfold Ow; iexists _; iexact HO
  isplitl [Hz]; · iexact Hz
  isplitl [H1] <;> iassumption

/-! ## Sending a slot -/

/-- A slot written whole holds what was written. -/
theorem pts_write (M : Memref sig .tc .vmem S3x4x64x512 .bf16) (h : Fin 3) (j : Fin 4) (f : Buf (Elt F) (M.view.loc (c : Thread nD τ)))
    (g : S3x4x64x512.Idx → F .bf16) :
    ((M.access (slotR h j)).loc (c : Thread nD τ) ↦[(M.access (slotR h j)).set]{fullShare}
        ((M.access (slotR h j)).write (Elt F) f (slotBlk g h j) Finset.univ) : sProp 𝕄)
      = pts c M h j (bufOf m M c g) :=
  pointsTo_congr (write_agree (M.access (slotR h j)) f (bufOf m M c g) (slotBlk g h j) (read_slot m M c g h j).symm)

/-- The two views and the two semaphores of a slot. -/
def IsSlot (d : Bool) (h : Fin 3) (j : Fin 4) (V V' : Memref sig .tc .vmem S64x512 .bf16) (q q' : DmaSem sig) : Prop :=
  V = slotV (sM d) h j ∧ V' = slotV (rM d) h j ∧ q = slotQ (sS d) h j ∧ q' = slotQ (rS d) h j

/-- Filling a slot of the send buffer and sending it. -/
theorem wp_put {α : Type} {Q : α → sProp 𝕄} (d : Bool) (h : Fin 3) (j : Fin 4) (pay : S1x1x64x512.Idx → F .bf16) (n : Dev nD)
    {V V' : Memref sig .tc .vmem S64x512 .bf16} {q q' : DmaSem sig} {hl hx hm hsc hsrc hdst hsem} {k : Unit → Prog (TpuEff nD τ sig (Elt F) Λ₀ .tc) α} :
    ctx m K ⊢ iprop(⌜IsSlot d h j V V' q q' ∧ pay = slotBlk (sentBuf (xv m) (wv m) d c) h j ∧ n.val = (dst d c).val⌝ -∗ ready c (d, h, j) -∗ Ow c ((d, h, j) :: l)
      -∗ ((flying c (d, h, j) ∗ Ow c l) -∗ wpc c (k ()) Q)
      -∗ wpc c (.op (.load (sM d) (slotR h j).toLoadRect hl) fun _ => .op (.store (sM d) (slotR h j) pay Finset.univ hx hm) fun _ =>
          .op (.enqueueDma V (.remote (Dev.tc n : Thread nD τ) V' (.dma q) hsc) (.dma q') hsrc hdst hsem) k) Q) := by
  iintro #HC %hp HS HO Hk
  obtain ⟨⟨rfl, rfl, rfl, rfl⟩, rfl, hn⟩ := hp
  have hn : n = dst d c := Fin.ext hn
  subst hn
  unfold ready idle Ow
  icases HS with ⟨⟨%fr, Hr⟩, ⟨%fs, Hs⟩, Ht, Ht', Hw⟩
  icases HO with ⟨%W, HO⟩
  ihave HI := (ctx_cell m K (c, some ((d, h, j), false))) $$ HC
  ihave HI' := (ctx_cell m K (dst d c, some ((d, h, j), true))) $$ HC
  ihave HR := (ctx_reached m K (c, some ((d, h, j), false))) $$ HC
  ihave HR' := (ctx_reached m K (dst d c, some ((d, h, j), true))) $$ HC
  dsimp only
  ihave Hr := (Entails.of_eq (pts_slotV (dst d c) (rM d) h j fr)) $$ Hr
  unfold pts
  iapply (wp_load_rect 𝒱₀ (c : Thread nD τ) none Set.univ (m := sM d) (r := slotR h j) (Finset.Subset.refl _)) $$ Hs; iintro Hs
  iapply (wp_store 𝒱₀ (c : Thread nD τ) none Set.univ (m := sM d) (r := slotR h j) (Mk := Finset.univ) (by rw [View.setOn_univ])) $$ Hs; iintro Hs
  ihave Hs := (Entails.of_eq ((pts_write m c (sM d) h j fs _).trans (pts_slotV c (sM d) h j _))) $$ Hs
  iapply (Rounds.wp_send_pointsTo 𝒱₀ ER (ringRd m) (c : Thread nD τ) none (c' := (dst d c : Thread nD τ)) (src := slotV (sM d) h j)
      (dst := slotV (rM d) h j) (sS := .dma (slotQ (sS d) h j)) (sem := .dma (slotQ (rS d) h j)) (κ₁ := K (c, some ((d, h, j), false)))
      (κ₂ := K (dst d c, some ((d, h, j), true))) (r₁ := 0) (r₂ := 0) (d₁ := false) (d₂ := false) (fd := fr)
      (by rw [duties_send m c (d, h, j)]; exact Finset.mem_singleton_self _) (by rw [duties_recv m (dst d c) (d, h, j)]; exact Finset.mem_singleton_self _)
      () () N (credit_r d h j) (amount_send m c (d, h, j) false) (amount_recv m (dst d c) (d, h, j) false) (owing c l) rfl (W := W)
      (by rw [payload_send m c (d, h, j)]; unfold sendPay; rw [pts_slotV])
      (by
        rw [payload_recv m (dst d c) (d, h, j)]; unfold recvPay recvC; dsimp only; rw [pts_slotV, src_dst]
        exact Entails.of_eq (pointsTo_congr (write_agree (slotV (rM d) h j).view _ _ _ (read_slotV m (sM d) (rM d) c (dst d c) _ h j)))))
    $$ [HI HI' Hs Hr HO Ht Ht' HR HR']
  · isplitl [HI]; · iexact HI
    isplitl [HI']; · iexact HI'
    isplitl [Hs]; · iexact Hs
    isplitl [Hr]; · iexact Hr
    isplitl [HO]; · iexact HO
    isplitl [Ht]; · iexact Ht
    isplitl [HR]; · iexact HR
    isplitl [Ht']; · iexact Ht'
    iexact HR'
  iintro ⟨Hc, HO⟩
  iapply Hk
  unfold flying
  isplitl [Hc Hw]
  · isplitl [Hc] <;> iassumption
  iexists W; iexact HO

/-! ## Receiving a slot -/

/-- Waiting for a slot's own send and for the copy that arrives in it, and reading what arrived. -/
theorem wp_get {α : Type} {Q : α → sProp 𝕄} (d : Bool) (h : Fin 3) (j : Fin 4)
    {V V' : Memref sig .tc .vmem S64x512 .bf16} {q q' : DmaSem sig} {h1 h2 h3 h4 h5} {k : (S1x1x64x512.Idx → F .bf16) → Prog (TpuEff nD τ sig (Elt F) Λ₀ .tc) α} :
    ctx m K ⊢ iprop(⌜IsSlot d h j V V' q q' ∧ ∀ s' ∈ l, h < s'.2.1⌝ -∗ flying c (d, h, j) -∗ Ow c l
      -∗ ((done m c (d, h, j) ∗ Ow c l) -∗ wpc c (k (slotBlk (sentBuf (xv m) (wv m) d (src d c)) h j)) Q)
      -∗ wpc c (.op (.waitDma2 q V' V h1 h2) fun _ => .op (.waitDma2 q' V V' h3 h4) fun _ =>
          .op (.load (rM d) (slotR h j).toLoadRect h5) k) Q) := by
  iintro #HC %hp HS HO Hk
  obtain ⟨⟨rfl, rfl, rfl, rfl⟩, hl⟩ := hp
  unfold flying waits0 Ow
  icases HS with ⟨Hcs, Hps, Hpr, Hcr⟩
  icases HO with ⟨%W, HO⟩
  ihave #HI := (ctx_cell m K (c, some ((d, h, j), false))) $$ HC
  ihave #HI' := (ctx_cell m K (c, some ((d, h, j), true))) $$ HC
  iapply (Rounds.wp_wait_rest_token 𝒱₀ ER (ringRd m) (c : Thread nD τ) none (κ := K (c, some ((d, h, j), false)))
      (wpE_waitDma2_eq 𝒱₀ (c : Thread nD τ) none Set.univ) (Set.mem_univ _) () (O := owing c l) (W := W) (R := 0) (m := 0) (T := ∅)
      (by rw [Nat.zero_add, credit_s]; exact (expect_send m c (d, h, j)).symm)) $$ [Hcs HO Hps]
  · isplitr; · iexact HI
    isplitl [Hcs]; · rw [credit_s]; iexact Hcs
    isplitl [HO]; · iexact HO
    isplitr; · iapply (mayWait_send c (d, h, j) l); iapply (ctx_lev m K); iexact HC
    iexact Hps
  iintro ⟨HO, Hps, -, Hs⟩
  ihave Hs := (Entails.of_eq (rest_send m c (d, h, j))) $$ Hs
  iapply (Rounds.wp_wait_rest_token 𝒱₀ ER (ringRd m) (c : Thread nD τ) none (κ := K (c, some ((d, h, j), true)))
      (wpE_waitDma2_eq 𝒱₀ (c : Thread nD τ) none Set.univ) (Set.mem_univ _) () (O := owing c l) (R := 0) (m := 0) (T := ∅)
      (by rw [Nat.zero_add, credit_r]; exact (expect_recv m c (d, h, j)).symm)) $$ [Hcr HO Hpr]
  · isplitr; · iexact HI'
    isplitl [Hcr]; · rw [credit_r]; iexact Hcr
    isplitl [HO]; · iexact HO
    isplitr; · iapply (mayWait_recv c (d, h, j) l hl); iapply (ctx_lev m K); iexact HC
    iexact Hpr
  iintro ⟨HO, Hpr, -, Hr⟩
  ihave Hr := (Entails.of_eq (rest_recv m c (d, h, j))) $$ Hr
  imod (Rounds.cell_close ER (ringRd m) (Set.mem_univ (K (c, some ((d, h, j), false)))) (fun h => h) (R := 0 + 1)
    (duties_later m (sendCell c (d, h, j)))) $$ [Hps] with Hzs
  · isplitr; · iexact HI
    iexact Hps
  imod (Rounds.cell_close ER (ringRd m) (Set.mem_univ (K (c, some ((d, h, j), true)))) (fun h => h) (R := 0 + 1)
    (duties_later m (recvCell c (d, h, j)))) $$ [Hpr] with Hzr
  · isplitr; · iexact HI'
    iexact Hpr
  unfold recvPay pts
  dsimp only
  iapply (wp_load_rect 𝒱₀ (c : Thread nD τ) none Set.univ (m := rM d) (r := slotR h j) (Finset.Subset.refl _)) $$ Hr; iintro Hr
  rw [read_slot]
  iapply Hk
  isplitr [HO]
  · unfold done recvPay pts
    isplitl [Hs]; · iexact Hs
    isplitl [Hr]; · iexact Hr
    isplitl [Hzs] <;> iassumption
  iexists _; iexact HO

/-! ## The arguments and the result -/

/-- The staged arguments. -/
abbrev xM : Memref sig .tc .vmem S1024x256 .f32 := Memref.whole cc0_stg0_0
abbrev wM : Memref sig .tc .vmem S256x1024 .f32 := Memref.whole cc0_stg1_0

theorem w_inb (d : Bool) (a : Fin 2) : (![0, col d] : Fin 2 → ℕ) a + S256x512.size a ≤ S256x1024.size a := by
  revert d a; decide

theorem read_x (k : ℕ) (X : S1024x256.Idx → F .f32) (hi : ∀ a, (![256 * k, 0] : Fin 2 → ℕ) a + S256x256.size a ≤ S1024x256.size a) :
    (xM.access (Rect.unit (s := S1024x256) ![256 * k, 0] S256x256.size hi)).read (Elt F) X = xRows k X := by
  funext i
  have h0 : (i 0).val < 256 := (i 0).isLt
  have hk : 256 * k + 256 ≤ 1024 := hi 0
  show X _ = X _
  congr 1
  funext a
  apply Fin.ext
  match a with
  | ⟨0, _⟩ => show 256 * k + 1 * (i 0).val = (256 * k + (i 0).val) % 1024; omega
  | ⟨1, _⟩ => show 0 + 1 * (i 1).val = (i 1).val; omega

theorem read_w (d : Bool) (W : S256x1024.Idx → F .f32) (hi : ∀ a, (![0, col d] : Fin 2 → ℕ) a + S256x512.size a ≤ S256x1024.size a) :
    (wM.access (Rect.unit (s := S256x1024) ![0, col d] S256x512.size hi)).read (Elt F) W = wHalf d W := by
  funext i
  have h1 : (i 1).val < 512 := (i 1).isLt
  show W _ = W _
  congr 1
  funext a
  apply Fin.ext
  match a with
  | ⟨0, _⟩ => show 0 + 1 * (i 0).val = (i 0).val; omega
  | ⟨1, _⟩ => cases d with
    | false => show 0 + 1 * (i 1).val = (i 1).val % 1024; omega
    | true => show 512 + 1 * (i 1).val = (512 + (i 1).val) % 1024; omega

/-- Both staged arguments of device `c`. -/
def args : sProp 𝕄 := iprop((xM.view.loc (c : Thread nD τ) ↦{fullShare} xv m c) ∗ (wM.view.loc (c : Thread nD τ) ↦{fullShare} wv m c))

/-- Reading the two operands of a product. -/
theorem wp_operands {α : Type} {Q : α → sProp 𝕄} (d : Bool) (kk : ℕ) (off : Fin 2 → ℕ) {hx : ∀ a, off a + S256x256.size a ≤ S1024x256.size a}
    {hw : ∀ a, (![0, col d] : Fin 2 → ℕ) a + S256x512.size a ≤ S256x1024.size a} {h1 h2}
    {k : Vec F S256x256 .f32 → Vec F S256x512 .f32 → Prog (TpuEff nD τ sig (Elt F) Λ₀ .tc) α} :
    args m c ⊢ iprop(⌜off = ![256 * kk, 0]⌝ -∗ (args m c -∗ wpc c (k (xRows kk (xv m c)) (wHalf d (wv m c))) Q)
      -∗ wpc c (.op (.load xM (Rect.unit (s := S1024x256) off S256x256.size hx).toLoadRect h1) fun (u : Vec F S256x256 .f32) =>
          .op (.load wM (Rect.unit (s := S256x1024) ![0, col d] S256x512.size hw).toLoadRect h2) (k u)) Q) := by
  iintro HA %hoff Hk
  subst hoff
  unfold args
  icases HA with ⟨Hx, Hw⟩
  iapply (wp_load_rect 𝒱₀ (c : Thread nD τ) none Set.univ (m := xM) (r := Rect.unit (s := S1024x256) ![256 * kk, 0] S256x256.size hx) (Finset.subset_univ _)) $$ Hx; iintro Hx
  rw [read_x]
  iapply (wp_load_rect 𝒱₀ (c : Thread nD τ) none Set.univ (m := wM) (r := Rect.unit (s := S256x1024) ![0, col d] S256x512.size hw) (Finset.subset_univ _)) $$ Hw; iintro Hw
  rw [read_w]
  iapply Hk
  isplitl [Hx] <;> iassumption

/-- Writing a rectangle of the result. -/
theorem wp_out {α : Type} {Q : α → sProp 𝕄} (d : Bool) (j : Fin 4) (pay : S64x512.Idx → F .f32) {hi hi' hl hx hm} {k : Unit → Prog (TpuEff nD τ sig (Elt F) Λ₀ .tc) α} :
    iprop(∃ f, opts c d j f) ⊢ iprop(⌜pay = outRows (xv m) (wv m) d j c⌝ -∗ (opts c d j (outC (xv m) (wv m) c) -∗ wpc c (k ()) Q)
      -∗ wpc c (.op (.load oM (Rect.unit (s := S256x1024) ![64 * j.val, col d] S64x512.size hi).toLoadRect hl) fun _ =>
          .op (.store oM (Rect.unit (s := S256x1024) ![64 * j.val, col d] S64x512.size hi') pay Finset.univ hx hm) k) Q) := by
  iintro ⟨%f, H⟩ %hp Hk
  subst hp
  unfold opts
  iapply (wp_load_rect 𝒱₀ (c : Thread nD τ) none Set.univ (m := oM) (r := outR d j) (Finset.Subset.refl _)) $$ H; iintro H
  iapply (wp_store 𝒱₀ (c : Thread nD τ) none Set.univ (m := oM) (r := outR d j) (Mk := Finset.univ) (by rw [View.setOn_univ])) $$ H; iintro H
  iapply Hk
  ihave H := (Entails.of_eq (pointsTo_congr (write_agree (oM.access (outR d j)) f (outC (xv m) (wv m) c) _ (read_out (xv m) (wv m) c d j)))) $$ H
  iexact H

end Cert.KernelIdeal.Ring

end
-- ==== Proof.RingIdeal.Body.lean ====
/- The body of one device, executed from what a device starts with to what it ends with. -/
module

public import proofs.«01_k».proof.Proof.RingIdeal.Steps

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (Slot × Bool) → ℕ) (c : Dev nD)

theorem slots_univ : (Finset.univ : Finset Slot) = order.toFinset := by decide
theorem bufs_univ : (Finset.univ : Finset (Bool × Fin 4)) =
    [(false, 0), (false, 1), (false, 2), (false, 3), (true, 0), (true, 1), (true, 2), ((true, 3) : Bool × Fin 4)].toFinset := by decide

/-- A neighbour's whole receive buffer is its slots. -/
theorem barPay_slots (d : Bool) : (barPay c d : sProp 𝕄) ⊢ bigSep Finset.univ fun p : Fin 3 × Fin 4 => iprop(∃ f, pts (dst d c) (rM d) p.1 p.2 f) := by
  unfold barPay
  iintro ⟨%f, H⟩
  iapply ((Entails.of_eq (whole_eq_slots (dst d c) (rM d) f)).trans (BI.bigSep_mono fun p _ =>
    (show pts (dst d c) (rM d) p.1 p.2 f ⊢ iprop(∃ f, pts (dst d c) (rM d) p.1 p.2 f) by iintro H; iexists f; iexact H)))
  iexact H

/-- With both neighbours' receive buffers every slot is ready to be sent. -/
theorem all_ready : iprop(bigSep Finset.univ (idle c) ∗ barPay c false ∗ barPay c true) ⊢ (bigSep Finset.univ (ready c) : sProp 𝕄) := by
  have e : (bigSep Finset.univ fun s : Slot => (iprop(∃ f, pts (dst s.1 c) (rM s.1) s.2.1 s.2.2 f) : sProp 𝕄))
      = iprop((bigSep Finset.univ fun p : Fin 3 × Fin 4 => iprop(∃ f, pts (dst false c) (rM false) p.1 p.2 f))
        ∗ (bigSep Finset.univ fun p : Fin 3 × Fin 4 => iprop(∃ f, pts (dst true c) (rM true) p.1 p.2 f))) := by
    rw [BI.bigSep_univ_prod, bigSep_univ_eq_bigSepL [false, true] (by decide) (by decide), bigSepL_cons_cons, bigSepL_singleton]
    rfl
  have e' : (bigSep Finset.univ (ready c) : sProp 𝕄)
      = iprop((bigSep Finset.univ fun s : Slot => (iprop(∃ f, pts (dst s.1 c) (rM s.1) s.2.1 s.2.2 f) : sProp 𝕄)) ∗ bigSep Finset.univ (idle c)) :=
    BI.bigSep_sep' Finset.univ _ _
  rw [e', e]
  iintro ⟨HI, H1, H2⟩
  isplitr [HI]
  · isplitl [H1]
    · iapply (barPay_slots c false); iexact H1
    · iapply (barPay_slots c true); iexact H2
  iexact HI

/-- A product over the slots, one factor for each in program order. -/
theorem slots_list (Φ : Slot → sProp 𝕄) : bigSep Finset.univ Φ =
    iprop(Φ (false, 0, 0) ∗ Φ (false, 0, 1) ∗ Φ (false, 0, 2) ∗ Φ (false, 0, 3) ∗ Φ (true, 0, 0) ∗ Φ (true, 0, 1) ∗ Φ (true, 0, 2) ∗ Φ (true, 0, 3) ∗ Φ (false, 1, 0) ∗ Φ (true, 1, 0) ∗ Φ (false, 1, 1) ∗ Φ (true, 1, 1) ∗ Φ (false, 1, 2) ∗ Φ (true, 1, 2) ∗ Φ (false, 1, 3) ∗ Φ (true, 1, 3) ∗ Φ (false, 2, 0) ∗ Φ (true, 2, 0) ∗ Φ (false, 2, 1) ∗ Φ (true, 2, 1) ∗ Φ (false, 2, 2) ∗ Φ (true, 2, 2) ∗ Φ (false, 2, 3) ∗ Φ (true, 2, 3)) := by
  rw [bigSep_univ_eq_bigSepL order slots_univ order_nodup]; rfl

theorem rects_list (Φ : Bool × Fin 4 → sProp 𝕄) : bigSep Finset.univ Φ =
    iprop(Φ (false, 0) ∗ Φ (false, 1) ∗ Φ (false, 2) ∗ Φ (false, 3) ∗ Φ (true, 0) ∗ Φ (true, 1) ∗ Φ (true, 2) ∗ Φ (true, 3)) := by
  rw [bigSep_univ_eq_bigSepL _ bufs_univ (by decide)]; rfl

/-- What device `c`'s body starts from. -/
def bodyPre : sProp 𝕄 :=
  iprop(ctx m K ∗ bigSep Finset.univ (idle c)
    ∗ dutyTok ER (barCell (src false c)) 0 false ∗ dutyTok ER (barCell (src true c)) 0 true
    ∗ atPos ER (barCell c) 0 ∅ 0 ∗ cred (tallyAt (barCell c) () 2)
    ∗ (∃ f, (rM false).view.loc (c : Thread nD τ) ↦[(rM false).view.set]{fullShare} f)
    ∗ (∃ f, (rM true).view.loc (c : Thread nD τ) ↦[(rM true).view.set]{fullShare} f)
    ∗ args m c ∗ bigSep Finset.univ (fun p : Bool × Fin 4 => iprop(∃ f, opts c p.1 p.2 f))
    ∗ ∃ W, owes (c : Thread nD τ) (O₀ c) W)

/-- What it ends with. -/
def bodyPost : sProp 𝕄 :=
  iprop(bigSep Finset.univ (done m c) ∗ semVal (barCell c) 0 ∗ args m c
    ∗ bigSep Finset.univ (fun p : Bool × Fin 4 => opts c p.1 p.2 (outC (xv m) (wv m) c)) ∗ Ow c [])

set_option maxHeartbeats 4000000 in
theorem body (Kt : PUnit → sProp 𝕄) :
    iprop(bodyPre m K c ∗ (bodyPost m c -∗ Kt ⟨⟩))
      ⊢ wpc c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _) (Memref.whole cc0_scratch1)
          (Memref.isWhole_whole _) (Memref.whole cc0_scratch2) (Memref.isWhole_whole _) (Memref.whole cc0_scratch3) (Memref.isWhole_whole _)
          cc0_scratch4 cc0_scratch5 cc0_scratch6 cc0_scratch7) Kt := by
  simp only [cc0_body_eq_skeleton]
  unfold cc0_body_skel
  simp only [k0_part40_eq_skeleton, k0_part40_skel, Prog.lift, Prog.bind_op, Prog.bind_ret, Prog.pure_eq_ret]
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, semSignalWord, semWaitWord, Prog.lift, Prog.bind_op, Prog.bind_ret, Prog.pure_eq_ret, wp_deviceId]
  unfold bodyPre
  iintro ⟨⟨#HC, HI, Ht1, Ht2, Hp, Hc, Hr1, Hr2, HA, HR, ⟨%W, HO⟩⟩, Hk⟩
  unfold O₀
  iapply (wp_ready m K c false (O₁ c) W _ _ (Fin.ext (k0_dev1_eq c)) (by decide)) $$ HC HO Ht1 Hr1
  iintro HO
  unfold O₁
  iapply (wp_ready m K c true (owing c order) W _ _ (Fin.ext (k0_dev2_eq c)) (by decide)) $$ HC HO Ht2 Hr2
  iintro HO
  iapply (wp_both m K c order W _ (by decide)) $$ HC HO Hc Hp
  iintro ⟨HO, Hz, HB1, HB2⟩
  ihave HS := (all_ready c) $$ [HI HB1 HB2]
  · isplitl [HI]; · iexact HI
    isplitl [HB1] <;> iassumption
  icases (Entails.of_eq (slots_list (ready c))) $$ HS with ⟨A00, A01, A02, A03, B00, B01, B02, B03, A10, B10, A11, B11, A12, B12, A13, B13, A20, B20, A21, B21, A22, B22, A23, B23⟩
  icases (Entails.of_eq (rects_list (fun p : Bool × Fin 4 => iprop(∃ f, opts c p.1 p.2 f)))) $$ HR with ⟨AR0, AR1, AR2, AR3, BR0, BR1, BR2, BR3⟩
  unfold order
  iapply (wp_operands m c false (chunk false 0 c) _) $$ HA []
  · ipureintro; exact k0_off1_eq c 0
  iintro HA
  iapply (wp_put m K c _ false 0 0 _ _) $$ HC [] A00 HO
  · ipureintro; exact ⟨⟨rfl, rfl, rfl, rfl⟩, firstPay_eq (xv m) (wv m) false c 0 slices_S256x512_o0_0_S64x512, k0_dev3_eq c⟩
  iintro ⟨A00, HO⟩
  iapply (wp_put m K c _ false 0 1 _ _) $$ HC [] A01 HO
  · ipureintro; exact ⟨⟨rfl, rfl, rfl, rfl⟩, firstPay_eq (xv m) (wv m) false c 1 slices_S256x512_o64_0_S64x512, k0_dev4_eq c⟩
  iintro ⟨A01, HO⟩
  iapply (wp_put m K c _ false 0 2 _ _) $$ HC [] A02 HO
  · ipureintro; exact ⟨⟨rfl, rfl, rfl, rfl⟩, firstPay_eq (xv m) (wv m) false c 2 slices_S256x512_o128_0_S64x512, k0_dev5_eq c⟩
  iintro ⟨A02, HO⟩
  iapply (wp_put m K c _ false 0 3 _ _) $$ HC [] A03 HO
  · ipureintro; exact ⟨⟨rfl, rfl, rfl, rfl⟩, firstPay_eq (xv m) (wv m) false c 3 slices_S256x512_o192_0_S64x512, k0_dev6_eq c⟩
  iintro ⟨A03, HO⟩
  iapply (wp_operands m c true (chunk true 0 c) _) $$ HA []
  · ipureintro; exact k0_off2_eq c 0
  iintro HA
  iapply (wp_put m K c _ true 0 0 _ _) $$ HC [] B00 HO
  · ipureintro; exact ⟨⟨rfl, rfl, rfl, rfl⟩, firstPay_eq (xv m) (wv m) true c 0 slices_S256x512_o0_0_S64x512, k0_dev7_eq c⟩
  iintro ⟨B00, HO⟩
  iapply (wp_put m K c _ true 0 1 _ _) $$ HC [] B01 HO
  · ipureintro; exact ⟨⟨rfl, rfl, rfl, rfl⟩, firstPay_eq (xv m) (wv m) true c 1 slices_S256x512_o64_0_S64x512, k0_dev8_eq c⟩
  iintro ⟨B01, HO⟩
  iapply (wp_put m K c _ true 0 2 _ _) $$ HC [] B02 HO
  · ipureintro; exact ⟨⟨rfl, rfl, rfl, rfl⟩, firstPay_eq (xv m) (wv m) true c 2 slices_S256x512_o128_0_S64x512, k0_dev9_eq c⟩
  iintro ⟨B02, HO⟩
  iapply (wp_put m K c _ true 0 3 _ _) $$ HC [] B03 HO
  · ipureintro; exact ⟨⟨rfl, rfl, rfl, rfl⟩, firstPay_eq (xv m) (wv m) true c 3 slices_S256x512_o192_0_S64x512, k0_dev10_eq c⟩
  iintro ⟨B03, HO⟩
  iapply (wp_operands m c false (chunk false 1 c) _) $$ HA []
  · ipureintro; exact k0_off1_eq c 1
  iintro HA
  iapply (wp_operands m c true (chunk true 1 c) _) $$ HA []
  · ipureintro; exact k0_off2_eq c 1
  iintro HA
  iapply (wp_get m K c _ false 0 0) $$ HC [] A00 HO
  · ipureintro; exact ⟨⟨rfl, rfl, rfl, rfl⟩, by decide⟩
  iintro ⟨A00, HO⟩
  iapply (wp_put m K c _ false 1 0 _ _) $$ HC [] A10 HO
  · ipureintro; exact ⟨⟨rfl, rfl, rfl, rfl⟩, nextPay_eq (xv m) (wv m) false 0 1 rfl c 0 slices_S256x512_o0_0_S64x512, k0_dev11_eq c⟩
  iintro ⟨A10, HO⟩
  iapply (wp_get m K c _ true 0 0) $$ HC [] B00 HO
  · ipureintro; exact ⟨⟨rfl, rfl, rfl, rfl⟩, by decide⟩
  iintro ⟨B00, HO⟩
  iapply (wp_put m K c _ true 1 0 _ _) $$ HC [] B10 HO
  · ipureintro; exact ⟨⟨rfl, rfl, rfl, rfl⟩, nextPay_eq (xv m) (wv m) true 0 1 rfl c 0 slices_S256x512_o0_0_S64x512, k0_dev12_eq c⟩
  iintro ⟨B10, HO⟩
  iapply (wp_get m K c _ false 0 1) $$ HC [] A01 HO
  · ipureintro; exact ⟨⟨rfl, rfl, rfl, rfl⟩, by decide⟩
  iintro ⟨A01, HO⟩
  iapply (wp_put m K c _ false 1 1 _ _) $$ HC [] A11 HO
  · ipureintro; exact ⟨⟨rfl, rfl, rfl, rfl⟩, nextPay_eq (xv m) (wv m) false 0 1 rfl c 1 slices_S256x512_o64_0_S64x512, k0_dev13_eq c⟩
  iintro ⟨A11, HO⟩
  iapply (wp_get m K c _ true 0 1) $$ HC [] B01 HO
  · ipureintro; exact ⟨⟨rfl, rfl, rfl, rfl⟩, by decide⟩
  iintro ⟨B01, HO⟩
  iapply (wp_put m K c _ true 1 1 _ _) $$ HC [] B11 HO
  · ipureintro; exact ⟨⟨rfl, rfl, rfl, rfl⟩, nextPay_eq (xv m) (wv m) true 0 1 rfl c 1 slices_S256x512_o64_0_S64x512, k0_dev14_eq c⟩
  iintro ⟨B11, HO⟩
  iapply (wp_get m K c _ false 0 2) $$ HC [] A02 HO
  · ipureintro; exact ⟨⟨rfl, rfl, rfl, rfl⟩, by decide⟩
  iintro ⟨A02, HO⟩
  iapply (wp_put m K c _ false 1 2 _ _) $$ HC [] A12 HO
  · ipureintro; exact ⟨⟨rfl, rfl, rfl, rfl⟩, nextPay_eq (xv m) (wv m) false 0 1 rfl c 2 slices_S256x512_o128_0_S64x512, k0_dev15_eq c⟩
  iintro ⟨A12, HO⟩
  iapply (wp_get m K c _ true 0 2) $$ HC [] B02 HO
  · ipureintro; exact ⟨⟨rfl, rfl, rfl, rfl⟩, by decide⟩
  iintro ⟨B02, HO⟩
  iapply (wp_put m K c _ true 1 2 _ _) $$ HC [] B12 HO
  · ipureintro; exact ⟨⟨rfl, rfl, rfl, rfl⟩, nextPay_eq (xv m) (wv m) true 0 1 rfl c 2 slices_S256x512_o128_0_S64x512, k0_dev16_eq c⟩
  iintro ⟨B12, HO⟩
  iapply (wp_get m K c _ false 0 3) $$ HC [] A03 HO
  · ipureintro; exact ⟨⟨rfl, rfl, rfl, rfl⟩, by decide⟩
  iintro ⟨A03, HO⟩
  iapply (wp_put m K c _ false 1 3 _ _) $$ HC [] A13 HO
  · ipureintro; exact ⟨⟨rfl, rfl, rfl, rfl⟩, nextPay_eq (xv m) (wv m) false 0 1 rfl c 3 slices_S256x512_o192_0_S64x512, k0_dev17_eq c⟩
  iintro ⟨A13, HO⟩
  iapply (wp_get m K c _ true 0 3) $$ HC [] B03 HO
  · ipureintro; exact ⟨⟨rfl, rfl, rfl, rfl⟩, by decide⟩
  iintro ⟨B03, HO⟩
  iapply (wp_put m K c _ true 1 3 _ _) $$ HC [] B13 HO
  · ipureintro; exact ⟨⟨rfl, rfl, rfl, rfl⟩, nextPay_eq (xv m) (wv m) true 0 1 rfl c 3 slices_S256x512_o192_0_S64x512, k0_dev18_eq c⟩
  iintro ⟨B13, HO⟩
  iapply (wp_operands m c false (chunk false 2 c) _) $$ HA []
  · ipureintro; exact k0_off1_eq c 2
  iintro HA
  iapply (wp_operands m c true (chunk true 2 c) _) $$ HA []
  · ipureintro; exact k0_off2_eq c 2
  iintro HA
  iapply (wp_get m K c _ false 1 0) $$ HC [] A10 HO
  · ipureintro; exact ⟨⟨rfl, rfl, rfl, rfl⟩, by decide⟩
  iintro ⟨A10, HO⟩
  iapply (wp_put m K c _ false 2 0 _ _) $$ HC [] A20 HO
  · ipureintro; exact ⟨⟨rfl, rfl, rfl, rfl⟩, nextPay_eq (xv m) (wv m) false 1 2 rfl c 0 slices_S256x512_o0_0_S64x512, k0_dev19_eq c⟩
  iintro ⟨A20, HO⟩
  iapply (wp_get m K c _ true 1 0) $$ HC [] B10 HO
  · ipureintro; exact ⟨⟨rfl, rfl, rfl, rfl⟩, by decide⟩
  iintro ⟨B10, HO⟩
  iapply (wp_put m K c _ true 2 0 _ _) $$ HC [] B20 HO
  · ipureintro; exact ⟨⟨rfl, rfl, rfl, rfl⟩, nextPay_eq (xv m) (wv m) true 1 2 rfl c 0 slices_S256x512_o0_0_S64x512, k0_dev20_eq c⟩
  iintro ⟨B20, HO⟩
  iapply (wp_get m K c _ false 1 1) $$ HC [] A11 HO
  · ipureintro; exact ⟨⟨rfl, rfl, rfl, rfl⟩, by decide⟩
  iintro ⟨A11, HO⟩
  iapply (wp_put m K c _ false 2 1 _ _) $$ HC [] A21 HO
  · ipureintro; exact ⟨⟨rfl, rfl, rfl, rfl⟩, nextPay_eq (xv m) (wv m) false 1 2 rfl c 1 slices_S256x512_o64_0_S64x512, k0_dev21_eq c⟩
  iintro ⟨A21, HO⟩
  iapply (wp_get m K c _ true 1 1) $$ HC [] B11 HO
  · ipureintro; exact ⟨⟨rfl, rfl, rfl, rfl⟩, by decide⟩
  iintro ⟨B11, HO⟩
  iapply (wp_put m K c _ true 2 1 _ _) $$ HC [] B21 HO
  · ipureintro; exact ⟨⟨rfl, rfl, rfl, rfl⟩, nextPay_eq (xv m) (wv m) true 1 2 rfl c 1 slices_S256x512_o64_0_S64x512, k0_dev22_eq c⟩
  iintro ⟨B21, HO⟩
  iapply (wp_get m K c _ false 1 2) $$ HC [] A12 HO
  · ipureintro; exact ⟨⟨rfl, rfl, rfl, rfl⟩, by decide⟩
  iintro ⟨A12, HO⟩
  iapply (wp_put m K c _ false 2 2 _ _) $$ HC [] A22 HO
  · ipureintro; exact ⟨⟨rfl, rfl, rfl, rfl⟩, nextPay_eq (xv m) (wv m) false 1 2 rfl c 2 slices_S256x512_o128_0_S64x512, k0_dev23_eq c⟩
  iintro ⟨A22, HO⟩
  iapply (wp_get m K c _ true 1 2) $$ HC [] B12 HO
  · ipureintro; exact ⟨⟨rfl, rfl, rfl, rfl⟩, by decide⟩
  iintro ⟨B12, HO⟩
  iapply (wp_put m K c _ true 2 2 _ _) $$ HC [] B22 HO
  · ipureintro; exact ⟨⟨rfl, rfl, rfl, rfl⟩, nextPay_eq (xv m) (wv m) true 1 2 rfl c 2 slices_S256x512_o128_0_S64x512, k0_dev24_eq c⟩
  iintro ⟨B22, HO⟩
  iapply (wp_get m K c _ false 1 3) $$ HC [] A13 HO
  · ipureintro; exact ⟨⟨rfl, rfl, rfl, rfl⟩, by decide⟩
  iintro ⟨A13, HO⟩
  iapply (wp_put m K c _ false 2 3 _ _) $$ HC [] A23 HO
  · ipureintro; exact ⟨⟨rfl, rfl, rfl, rfl⟩, nextPay_eq (xv m) (wv m) false 1 2 rfl c 3 slices_S256x512_o192_0_S64x512, k0_dev25_eq c⟩
  iintro ⟨A23, HO⟩
  iapply (wp_get m K c _ true 1 3) $$ HC [] B13 HO
  · ipureintro; exact ⟨⟨rfl, rfl, rfl, rfl⟩, by decide⟩
  iintro ⟨B13, HO⟩
  iapply (wp_put m K c _ true 2 3 _ _) $$ HC [] B23 HO
  · ipureintro; exact ⟨⟨rfl, rfl, rfl, rfl⟩, nextPay_eq (xv m) (wv m) true 1 2 rfl c 3 slices_S256x512_o192_0_S64x512, k0_dev26_eq c⟩
  iintro ⟨B23, HO⟩
  iapply (wp_operands m c false c.val _) $$ HA []
  · ipureintro; exact k0_off3_eq c
  iintro HA
  iapply (wp_operands m c true c.val _) $$ HA []
  · ipureintro; exact k0_off3_eq c
  iintro HA
  iapply (wp_get m K c _ false 2 0) $$ HC [] A20 HO
  · ipureintro; exact ⟨⟨rfl, rfl, rfl, rfl⟩, by decide⟩
  iintro ⟨A20, HO⟩
  iapply (wp_out m c false 0 _) $$ AR0 []
  · ipureintro; exact outPay_eq (xv m) (wv m) false c 0 slices_S256x512_o0_0_S64x512
  iintro AR0
  iapply (wp_get m K c _ true 2 0) $$ HC [] B20 HO
  · ipureintro; exact ⟨⟨rfl, rfl, rfl, rfl⟩, by decide⟩
  iintro ⟨B20, HO⟩
  iapply (wp_out m c true 0 _) $$ BR0 []
  · ipureintro; exact outPay_eq (xv m) (wv m) true c 0 slices_S256x512_o0_0_S64x512
  iintro BR0
  iapply (wp_get m K c _ false 2 1) $$ HC [] A21 HO
  · ipureintro; exact ⟨⟨rfl, rfl, rfl, rfl⟩, by decide⟩
  iintro ⟨A21, HO⟩
  iapply (wp_out m c false 1 _) $$ AR1 []
  · ipureintro; exact outPay_eq (xv m) (wv m) false c 1 slices_S256x512_o64_0_S64x512
  iintro AR1
  iapply (wp_get m K c _ true 2 1) $$ HC [] B21 HO
  · ipureintro; exact ⟨⟨rfl, rfl, rfl, rfl⟩, by decide⟩
  iintro ⟨B21, HO⟩
  iapply (wp_out m c true 1 _) $$ BR1 []
  · ipureintro; exact outPay_eq (xv m) (wv m) true c 1 slices_S256x512_o64_0_S64x512
  iintro BR1
  iapply (wp_get m K c _ false 2 2) $$ HC [] A22 HO
  · ipureintro; exact ⟨⟨rfl, rfl, rfl, rfl⟩, by decide⟩
  iintro ⟨A22, HO⟩
  iapply (wp_out m c false 2 _) $$ AR2 []
  · ipureintro; exact outPay_eq (xv m) (wv m) false c 2 slices_S256x512_o128_0_S64x512
  iintro AR2
  iapply (wp_get m K c _ true 2 2) $$ HC [] B22 HO
  · ipureintro; exact ⟨⟨rfl, rfl, rfl, rfl⟩, by decide⟩
  iintro ⟨B22, HO⟩
  iapply (wp_out m c true 2 _) $$ BR2 []
  · ipureintro; exact outPay_eq (xv m) (wv m) true c 2 slices_S256x512_o128_0_S64x512
  iintro BR2
  iapply (wp_get m K c _ false 2 3) $$ HC [] A23 HO
  · ipureintro; exact ⟨⟨rfl, rfl, rfl, rfl⟩, by decide⟩
  iintro ⟨A23, HO⟩
  iapply (wp_out m c false 3 _) $$ AR3 []
  · ipureintro; exact outPay_eq (xv m) (wv m) false c 3 slices_S256x512_o192_0_S64x512
  iintro AR3
  iapply (wp_get m K c _ true 2 3) $$ HC [] B23 HO
  · ipureintro; exact ⟨⟨rfl, rfl, rfl, rfl⟩, by decide⟩
  iintro ⟨B23, HO⟩
  iapply (wp_out m c true 3 _) $$ BR3 []
  · ipureintro; exact outPay_eq (xv m) (wv m) true c 3 slices_S256x512_o192_0_S64x512
  iintro BR3
  unfold wpc
  rw [wp_ret]; imodintro
  iapply Hk
  unfold bodyPost
  rw [slots_list, rects_list]
  isplitl [A00 A01 A02 A03 B00 B01 B02 B03 A10 B10 A11 B11 A12 B12 A13 B13 A20 B20 A21 B21 A22 B22 A23 B23]
  · isplitl [A00]; · iexact A00
    isplitl [A01]; · iexact A01
    isplitl [A02]; · iexact A02
    isplitl [A03]; · iexact A03
    isplitl [B00]; · iexact B00
    isplitl [B01]; · iexact B01
    isplitl [B02]; · iexact B02
    isplitl [B03]; · iexact B03
    isplitl [A10]; · iexact A10
    isplitl [B10]; · iexact B10
    isplitl [A11]; · iexact A11
    isplitl [B11]; · iexact B11
    isplitl [A12]; · iexact A12
    isplitl [B12]; · iexact B12
    isplitl [A13]; · iexact A13
    isplitl [B13]; · iexact B13
    isplitl [A20]; · iexact A20
    isplitl [B20]; · iexact B20
    isplitl [A21]; · iexact A21
    isplitl [B21]; · iexact B21
    isplitl [A22]; · iexact A22
    isplitl [B22]; · iexact B22
    isplitl [A23]; · iexact A23
    iassumption
  isplitl [Hz]; · iexact Hz
  isplitl [HA]; · iexact HA
  isplitr [HO]
  · isplitl [AR0]; · iexact AR0
    isplitl [AR1]; · iexact AR1
    isplitl [AR2]; · iexact AR2
    isplitl [AR3]; · iexact AR3
    isplitl [BR0]; · iexact BR0
    isplitl [BR1]; · iexact BR1
    isplitl [BR2]; · iexact BR2
    iassumption
  iexact HO

end Cert.KernelIdeal.Ring

end
-- ==== Proof.RingIdeal.Obligation.lean ====
/- What a device holds when the kernel starts on it and when it ends, and the body run from the one to the other. -/
module

public import proofs.«01_k».proof.Proof.RingIdeal.Body
public import proofs.«01_k».proof.Proof.Gen.KernelIdeal.Launch
public import proofs.«01_k».proof.Proof.Gen.KernelIdeal.Points

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The memory at launch: any contents, every semaphore at zero. -/
def s₀ : MemSt nD τ sig (Elt F) := ⟨m, fun _ => 0, ρ⟩

/-! ## Before and after the body -/

/-- A device's share of the ring's ghost state: every semaphore's invariant, the rights to add to the semaphores it adds
    to, its positions at its own. -/
def ghost (K : Dev nD × Option (Slot × Bool) → ℕ) (c : Dev nD) : sProp 𝕄 :=
  iprop(bigSep Finset.univ (record m K)
    ∗ (bigSep Finset.univ fun s : Slot => iprop(dutyTok ER (sendCell c s) 0 false ∗ dutyTok ER (recvCell (dst s.1 c) s) 0 false
        ∗ atPos ER (sendCell c s) 0 ∅ 0 ∗ atPos ER (recvCell c s) 0 ∅ 0))
    ∗ dutyTok ER (barCell (src false c)) 0 false ∗ dutyTok ER (barCell (src true c)) 0 true ∗ atPos ER (barCell c) 0 ∅ 0)

/-- The credit its waits are made with. -/
def creds (c : Dev nD) : sProp 𝕄 :=
  iprop(cred (tallyAt (barCell c) () 2) ∗ bigSep Finset.univ fun s : Slot => cred (tallyAt (recvCell c s) () N))

def start (c : Dev nD) : sProp 𝕄 := iprop((∃ K, ghost m K c) ∗ levAts L lv ∗ creds c)

/-- One buffer of slots, whole, at some contents. -/
def buf (c : Dev nD) (M : Memref sig .tc .vmem S3x4x64x512 .bf16) : sProp 𝕄 := iprop(∃ f, M.view.loc (c : Thread nD τ) ↦[M.view.set]{fullShare} f)
/-- The send and the receive buffers of both lanes. -/
def bufs (c : Dev nD) : sProp 𝕄 := iprop(buf c (sM false) ∗ buf c (rM false) ∗ buf c (sM true) ∗ buf c (rM true))

def Φ₀ (c : Dev nD) : sProp 𝕄 := iprop(start m c ∗ bufs c)
def Φ₁ (c : Dev nD) : sProp 𝕄 := iprop(bigSep Finset.univ (done m c) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => wv m c
    | ⟨2, _⟩ => outC (xv m) (wv m) c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

/-! ## Buffers and slots -/

theorem lanes (Φ : Slot → sProp 𝕄) : bigSep Finset.univ Φ
    = iprop((bigSep Finset.univ fun p : Fin 3 × Fin 4 => Φ (false, p)) ∗ (bigSep Finset.univ fun p : Fin 3 × Fin 4 => Φ (true, p))) := by
  rw [BI.bigSep_univ_prod, bigSep_univ_eq_bigSepL [false, true] (by decide) (by decide), bigSepL_cons_cons, bigSepL_singleton]
  rfl

/-- Both lanes' buffers are all the slots. -/
theorem buf_slots (M : Bool → Memref sig .tc .vmem S3x4x64x512 .bf16) (c : Dev nD) :
    iprop(buf c (M false) ∗ buf c (M true)) ⊢ (bigSep Finset.univ fun s : Slot => iprop(∃ f, pts c (M s.1) s.2.1 s.2.2 f) : sProp 𝕄) := by
  have one (d : Bool) : (buf c (M d) : sProp 𝕄) ⊢ bigSep Finset.univ fun p : Fin 3 × Fin 4 => iprop(∃ f, pts c (M d) p.1 p.2 f) := by
    unfold buf
    iintro ⟨%f, H⟩
    iapply ((Entails.of_eq (whole_eq_slots c (M d) f)).trans (BI.bigSep_mono fun p _ =>
      (show pts c (M d) p.1 p.2 f ⊢ iprop(∃ f, pts c (M d) p.1 p.2 f) by iintro H; iexists f; iexact H)))
    iexact H
  rw [lanes]
  iintro ⟨H1, H2⟩
  isplitl [H1]
  · iapply (one false); iexact H1
  · iapply (one true); iexact H2

/-- And all the slots, each lane's at one contents, are both buffers. -/
theorem slots_buf (M : Bool → Memref sig .tc .vmem S3x4x64x512 .bf16) (c : Dev nD) (f : (d : Bool) → Buf (Elt F) ((M d).view.loc (c : Thread nD τ))) :
    (bigSep Finset.univ fun s : Slot => pts c (M s.1) s.2.1 s.2.2 (f s.1) : sProp 𝕄) ⊢ iprop(buf c (M false) ∗ buf c (M true)) := by
  have one (d : Bool) : (bigSep Finset.univ fun p : Fin 3 × Fin 4 => pts c (M d) p.1 p.2 (f d) : sProp 𝕄) ⊢ buf c (M d) := by
    unfold buf
    iintro H
    iexists f d
    iapply (Entails.of_eq (whole_eq_slots c (M d) (f d)).symm)
    iexact H
  rw [lanes]
  iintro ⟨H1, H2⟩
  isplitl [H1]
  · iapply (one false); iexact H1
  · iapply (one true); iexact H2

theorem buf_whole (c : Dev nD) (d : Bool) :
    ((buf c (sM d) : sProp 𝕄) = iprop(∃ f : Buf (Elt F) ((sM d).view.loc (c : Thread nD τ)), (sM d).view.loc (c : Thread nD τ) ↦{fullShare} f))
      ∧ ((buf c (rM d) : sProp 𝕄) = iprop(∃ f : Buf (Elt F) ((rM d).view.loc (c : Thread nD τ)), (rM d).view.loc (c : Thread nD τ) ↦{fullShare} f)) := by
  unfold buf
  cases d <;> constructor <;> simp only [Memref.view_whole, View.set_whole]

/-- Every slot idle, from the ghost state, the credit and the send buffers. -/
theorem all_idle (c : Dev nD) :
    iprop((bigSep Finset.univ fun s : Slot => iprop(dutyTok ER (sendCell c s) 0 false ∗ dutyTok ER (recvCell (dst s.1 c) s) 0 false
        ∗ atPos ER (sendCell c s) 0 ∅ 0 ∗ atPos ER (recvCell c s) 0 ∅ 0))
      ∗ (bigSep Finset.univ fun s : Slot => cred (tallyAt (recvCell c s) () N)) ∗ buf c (sM false) ∗ buf c (sM true))
      ⊢ (bigSep Finset.univ (idle c) : sProp 𝕄) := by
  have e : (bigSep Finset.univ (idle c) : sProp 𝕄)
      = iprop((bigSep Finset.univ fun s : Slot => iprop(∃ f, pts c (sM s.1) s.2.1 s.2.2 f))
        ∗ (bigSep Finset.univ fun s : Slot => dutyTok ER (sendCell c s) 0 false) ∗ (bigSep Finset.univ fun s : Slot => dutyTok ER (recvCell (dst s.1 c) s) 0 false)
        ∗ (bigSep Finset.univ fun s : Slot => atPos ER (sendCell c s) 0 ∅ 0) ∗ (bigSep Finset.univ fun s : Slot => atPos ER (recvCell c s) 0 ∅ 0)
        ∗ (bigSep Finset.univ fun s : Slot => cred (tallyAt (recvCell c s) () N))) := by
    rw [← BI.bigSep_sep', ← BI.bigSep_sep', ← BI.bigSep_sep', ← BI.bigSep_sep', ← BI.bigSep_sep']
    rfl
  rw [e, BI.bigSep_sep', BI.bigSep_sep', BI.bigSep_sep']
  iintro ⟨⟨H1, H2, H3, H4⟩, H5, H6, H7⟩
  isplitl [H6 H7]
  · iapply (buf_slots sM c); isplitl [H6] <;> iassumption
  isplitl [H1]; · iexact H1
  isplitl [H2]; · iexact H2
  isplitl [H3]; · iexact H3
  isplitl [H4] <;> iassumption

/-- Every slot done, as the buffers and the semaphores. -/
theorem all_done (c : Dev nD) : (bigSep Finset.univ (done m c) : sProp 𝕄)
    ⊢ iprop(Pipeline.ownSems0 (Ix := Unit) (Name := ℕ) (U := UU) (Lvl := ℕ) (Val := Elt F) (τ := τ) osem c ∗ bufs c) := by
  have e : (bigSep Finset.univ (done m c) : sProp 𝕄)
      = iprop((bigSep Finset.univ fun s : Slot => pts c (sM s.1) s.2.1 s.2.2 (sendC m c s.1)) ∗ (bigSep Finset.univ fun s : Slot => pts c (rM s.1) s.2.1 s.2.2 (recvC m c s.1))
        ∗ (bigSep Finset.univ fun s : Slot => semVal (sendCell c s) 0) ∗ (bigSep Finset.univ fun s : Slot => semVal (recvCell c s) 0)) := by
    rw [← BI.bigSep_sep', ← BI.bigSep_sep', ← BI.bigSep_sep']
    rfl
  have e' : (Pipeline.ownSems0 (Ix := Unit) (Name := ℕ) (U := UU) (Lvl := ℕ) (Val := Elt F) (τ := τ) osem c : sProp 𝕄)
      = iprop((bigSep Finset.univ fun s : Slot => semVal (sendCell c s) 0) ∗ (bigSep Finset.univ fun s : Slot => semVal (recvCell c s) 0)) := by
    unfold Pipeline.ownSems0
    rw [← BI.bigSep_sep', BI.bigSep_univ_prod]
    refine BI.bigSep_congr fun s _ => ?_
    rw [bigSep_univ_eq_bigSepL [false, true] (by decide) (by decide), bigSepL_cons_cons, bigSepL_singleton]
    rfl
  rw [e, e']
  unfold bufs
  iintro ⟨H1, H2, H3, H4⟩
  isplitl [H3 H4]
  · isplitl [H3] <;> iassumption
  ihave H1 := (slots_buf sM c (fun d => sendC m c d)) $$ H1
  ihave H2 := (slots_buf rM c (fun d => recvC m c d)) $$ H2
  icases H1 with ⟨H1, H1'⟩
  icases H2 with ⟨H2, H2'⟩
  isplitl [H1]; · iexact H1
  isplitl [H2]; · iexact H2
  isplitl [H1'] <;> iassumption

/-! ## The body's obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem out_whole (c : Dev nD) (f : S256x1024.Idx → F .f32) : ((((c : Thread nD τ).loc cc0_stg2_0) ↦{fullShare} f) : sProp 𝕄)
    = bigSep Finset.univ fun p : Bool × Fin 4 => opts c p.1 p.2 f := by
  rw [← out_eq_rects]; simp only [Memref.view_whole, View.set_whole]

def pointPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def pointPost (c : Dev nD) : sProp 𝕄 :=
  iprop(Φ₁ m c ∗ (dats m ρ 0 c).owesAt () t0_0.succ ∗ stg c cc0_stg0_0 (xv m c) ∗ stg c cc0_stg1_0 (wv m c)
    ∗ stg c cc0_stg2_0 (outC (xv m) (wv m) c))

theorem point_pre (c : Dev nD) : pointPre m ρ c ⊢ iprop(∃ K, bodyPre m K c) := by
  unfold pointPre Φ₀ start ghost creds bufs
  iintro ⟨⟨⟨⟨%K, #HR, HG, Ht1, Ht2, Hp⟩, #HL, Hc, Hcs⟩, Hs1, Hr1, Hs2, Hr2⟩, HO, ⟨%d0, %g0, %hg0, Hx⟩, ⟨%d1, %g1, %hg1, Hw⟩, ⟨%d2, %g2, %hg2, Ho⟩⟩
  have hx : g0 = xv m c := by rw [hg0]; unfold Dat.before; rw [if_pos (fetch_0 t0_0)]; rfl
  have hw : g1 = wv m c := by rw [hg1]; unfold Dat.before; rw [if_pos (fetch_1 t0_0)]; rfl
  subst hx hw
  unfold Dat.owesAt Pipeline.owesWithin
  icases HO with ⟨%W, %hW, HO⟩
  iexists K
  unfold bodyPre
  isplitr
  · unfold ctx; isplitl; · iexact HR
    iexact HL
  isplitl [HG Hcs Hs1 Hs2]
  · iapply (all_idle c)
    isplitl [HG]; · iexact HG
    isplitl [Hcs]; · iexact Hcs
    isplitl [Hs1] <;> iassumption
  isplitl [Ht1]; · iexact Ht1
  isplitl [Ht2]; · iexact Ht2
  isplitl [Hp]; · iexact Hp
  isplitl [Hc]; · iexact Hc
  isplitl [Hr1]; · unfold buf; iexact Hr1
  isplitl [Hr2]; · unfold buf; iexact Hr2
  isplitl [Hx Hw]
  · unfold args; isplitl [Hx]; · iexact Hx
    iexact Hw
  isplitl [Ho]
  · iapply ((Entails.of_eq (out_whole c g2)).trans (BI.bigSep_mono fun p _ =>
      (show opts c p.1 p.2 g2 ⊢ iprop(∃ f, opts c p.1 p.2 f) by iintro H; iexists g2; iexact H)))
    iexact Ho
  iexists W; iexact HO

theorem point_post (c : Dev nD) : bodyPost m c ⊢ pointPost m ρ c := by
  unfold bodyPost pointPost Φ₁ Ow args Dat.owesAt Pipeline.owesWithin
  iintro ⟨Hd, Hz, ⟨Hx, Hw⟩, Ho, ⟨%W, HO⟩⟩
  isplitl [Hd Hz]
  · isplitl [Hd] <;> iassumption
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iapply (Entails.of_eq (out_whole c (outC (xv m) (wv m) c)).symm)
  iexact Ho

/-- The body meets its obligation on every device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show pointPre m ρ c ⊢ wpc c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _) (Memref.whole cc0_scratch1)
          (Memref.isWhole_whole _) (Memref.whole cc0_scratch2) (Memref.isWhole_whole _) (Memref.whole cc0_scratch3) (Memref.isWhole_whole _)
          cc0_scratch4 cc0_scratch5 cc0_scratch6 cc0_scratch7) (fun _ => pointPost m ρ c)
  iintro H
  ihave H := (point_pre m ρ c) $$ H
  icases H with ⟨%K, H⟩
  iapply (body m K c fun _ => pointPost m ρ c)
  isplitl [H]; · iexact H
  iintro H
  iapply (point_post m ρ c)
  iexact H

end Cert.KernelIdeal.Ring

end
-- ==== Proof.RingIdeal.Launch.lean ====
/- The launch: the ring's ghost state made and dealt to the devices, and the run of the whole program on all of them. -/
module

public import Idealize.ShloMosaic.Lib.Pipeline.CollectiveSegs
public import proofs.«01_k».proof.Proof.RingIdeal.Obligation

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem ownSemFacts : Pipeline.OwnSemFacts cfg0.spec osem where
  isScoped := by decide
  inj := osem_injective
  disj := by decide

theorem share_eq (c : Dev nD) (w : Fin cfg0.W) : (dats m ρ 0 c).share w = fullShare := by unfold Dat.share; split <;> rfl

/-! ## Products over a device's semaphores -/

theorem pairs (Φ : Slot × Bool → sProp 𝕄) : bigSep Finset.univ Φ
    = iprop((bigSep Finset.univ fun s : Slot => Φ (s, false)) ∗ (bigSep Finset.univ fun s : Slot => Φ (s, true))) := by
  rw [← BI.bigSep_sep', BI.bigSep_univ_prod]
  refine BI.bigSep_congr fun s _ => ?_
  rw [bigSep_univ_eq_bigSepL [false, true] (by decide) (by decide), bigSepL_cons_cons, bigSepL_singleton]
  rfl

theorem option_univ : (Finset.univ : Finset (Option (Slot × Bool))) = insert none (Finset.univ.map Function.Embedding.some) := by
  ext x; cases x <;> simp

theorem with_bar (Φ : Option (Slot × Bool) → sProp 𝕄) : bigSep Finset.univ Φ = iprop(Φ none ∗ bigSep Finset.univ fun k : Slot × Bool => Φ (some k)) := by
  rw [option_univ, BI.bigSep_insert (by simp), BI.bigSep_map]
  rfl

theorem with_bar_pairs (Φ : Option (Slot × Bool) → sProp 𝕄) : bigSep Finset.univ Φ
    = iprop(Φ none ∗ (bigSep Finset.univ fun s : Slot => Φ (some (s, false))) ∗ (bigSep Finset.univ fun s : Slot => Φ (some (s, true)))) := by
  rw [with_bar, pairs]

/-! ## What is made, and what each device is dealt -/

def ringCells : Finset (GSem nD τ sig) := Finset.univ.map ⟨kcell, kcell_injective⟩

/-- The rights to add: two to each handshake semaphore, one to every other. -/
abbrev tokOf (x : Dev nD × (Bool ⊕ (Slot × Bool))) : GSem nD τ sig × ℕ × Bool := match x.2 with
  | .inl d => (kcell (x.1, none), 0, d)
  | .inr k => (kcell (x.1, some k), 0, false)
theorem tokOf_injective : Function.Injective tokOf := by
  rintro ⟨c, d | k⟩ ⟨c', d' | k'⟩ h
  · have h1 := kcell_injective (congrArg Prod.fst h)
    have h2 : d = d' := congrArg (fun x : GSem nD τ sig × ℕ × Bool => x.2.2) h
    obtain rfl : c = c' := congrArg Prod.fst h1
    rw [h2]
  · exact absurd (congrArg Prod.snd (kcell_injective (congrArg Prod.fst h))) (by intro h; cases h)
  · exact absurd (congrArg Prod.snd (kcell_injective (congrArg Prod.fst h))) (by intro h; cases h)
  · have h1 := kcell_injective (congrArg Prod.fst h)
    have h2 : k = k' := Option.some.inj (congrArg Prod.snd h1)
    obtain rfl : c = c' := congrArg Prod.fst h1
    rw [h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The rights to add to device `c`'s own semaphores. -/
def toks (c : Dev nD) : sProp 𝕄 :=
  iprop((dutyTok ER (barCell c) 0 false ∗ dutyTok ER (barCell c) 0 true)
    ∗ (bigSep Finset.univ fun s : Slot => dutyTok ER (sendCell c s) 0 false) ∗ (bigSep Finset.univ fun s : Slot => dutyTok ER (recvCell c s) 0 false))

/-- The rights that device `c` uses. -/
def payToks (c : Dev nD) : sProp 𝕄 :=
  iprop((dutyTok ER (barCell (src false c)) 0 false ∗ dutyTok ER (barCell (src true c)) 0 true)
    ∗ (bigSep Finset.univ fun s : Slot => dutyTok ER (sendCell c s) 0 false) ∗ (bigSep Finset.univ fun s : Slot => dutyTok ER (recvCell (dst s.1 c) s) 0 false))

def G (c : Dev nD) : sProp 𝕄 :=
  iprop((bigSep Finset.univ fun k : Option (Slot × Bool) => roundState ER (ringRd m) (kcell (c, k)) 0)
    ∗ (bigSep Finset.univ fun k : Option (Slot × Bool) => atPos ER (kcell (c, k)) 0 ∅ 0)
    ∗ (bigSep Finset.univ fun k : Option (Slot × Bool) => reached ER (kcell (c, k)) 0) ∗ toks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ
      = bigSep Finset.univ fun c : Dev nD => bigSep Finset.univ fun k : Option (Slot × Bool) => Φ (kcell (c, k)) := by
    unfold ringCells; rw [BI.bigSep_map, BI.bigSep_univ_prod]; rfl
  have hT : bigSep ringToks (fun x => (dutyTok ER x.1 x.2.1 x.2.2 : sProp 𝕄)) = bigSep Finset.univ fun c : Dev nD => toks c := by
    unfold ringToks
    rw [BI.bigSep_map, BI.bigSep_univ_prod]
    refine BI.bigSep_congr fun c _ => ?_
    unfold toks
    rw [BI.bigSep_univ_sum, pairs, bigSep_univ_eq_bigSepL [false, true] (by decide) (by decide), bigSepL_cons_cons, bigSepL_singleton]
    rfl
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [BI.bigSep_sep']
  isplitl [Hst]; · iexact Hst
  isplitl [Hat]; · iexact Hat
  isplitl [Hr]; · iexact Hr
  iexact Htok

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Option (Slot × Bool) => semVal (kcell (c, k)) 0 : sProp 𝕄) := by
  rw [unscopedSems0_eq, with_bar]
  unfold Pipeline.ownSems0
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Option (Slot × Bool) => iprop(∃ κ : ℕ, cellInv ER (ringRd m) κ (kcell (c, k))))
          ∗ (bigSep Finset.univ fun k : Option (Slot × Bool) => atPos ER (kcell (c, k)) 0 ∅ 0)
          ∗ (bigSep Finset.univ fun k : Option (Slot × Bool) => reached ER (kcell (c, k)) 0) ∗ toks c) := by
  have alloc : iprop((bigSep Finset.univ fun k : Option (Slot × Bool) => semVal (kcell (c, k)) 0)
        ∗ bigSep Finset.univ fun k : Option (Slot × Bool) => roundState ER (ringRd m) (kcell (c, k)) 0)
      ⊢ (|={Set.univ}=> bigSep Finset.univ fun k : Option (Slot × Bool) => iprop(∃ κ : ℕ, cellInv ER (ringRd m) κ (kcell (c, k))) : sProp 𝕄) := by
    rw [← BI.bigSep_sep']
    exact (BI.bigSep_mono fun k _ => (Rounds.body_intro ER (ringRd m) (kcell (c, k))).trans inv_alloc).trans (bigSep_fupd _ _)
  unfold G
  iintro ⟨Hos, Hus, Hst, Hat, Hr, Htok⟩
  ihave Hv := (sems0 (F := F) c) $$ [Hos Hus]
  · isplitl [Hos] <;> iassumption
  imod alloc $$ [Hv Hst] with Hinv
  · isplitl [Hv] <;> iassumption
  imodintro
  isplitl [Hinv]; · iexact Hinv
  isplitl [Hat]; · iexact Hat
  isplitl [Hr] <;> iassumption

/-- The devices in ring order of lane `d`. -/
def ring (d : Bool) : Dev nD ≃ Dev nD := ⟨dst d, src d, src_dst d, dst_src d⟩

/-- Every right goes to the device that uses it. -/
theorem toks_around : (bigSep Finset.univ fun c : Dev nD => (toks c : sProp 𝕄)) ⊢ bigSep Finset.univ fun c : Dev nD => payToks c := by
  have lane (d : Bool) : (bigSep Finset.univ fun c : Dev nD => bigSep Finset.univ fun p : Fin 3 × Fin 4 => (dutyTok ER (recvCell c (d, p)) 0 false : sProp 𝕄))
      = bigSep Finset.univ fun c : Dev nD => bigSep Finset.univ fun p : Fin 3 × Fin 4 => (dutyTok ER (recvCell (dst d c) (d, p)) 0 false : sProp 𝕄) :=
    BI.bigSep_univ_equiv (ring d) _
  have bar (d : Bool) : (bigSep Finset.univ fun c : Dev nD => (dutyTok ER (barCell c) 0 d : sProp 𝕄))
      = bigSep Finset.univ fun c : Dev nD => (dutyTok ER (barCell (src d c)) 0 d : sProp 𝕄) :=
    BI.bigSep_univ_equiv (ring d).symm _
  have recv : (bigSep Finset.univ fun c : Dev nD => bigSep Finset.univ fun s : Slot => (dutyTok ER (recvCell c s) 0 false : sProp 𝕄))
      = bigSep Finset.univ fun c : Dev nD => bigSep Finset.univ fun s : Slot => (dutyTok ER (recvCell (dst s.1 c) s) 0 false : sProp 𝕄) := by
    simp only [lanes, BI.bigSep_sep']
    rw [lane false, lane true]
  unfold toks payToks
  simp only [BI.bigSep_sep']
  rw [bar false, bar true, recv]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← BI.bigSep_sep']; exact BI.bigSep_mono h)

instance records_persistent (K : Dev nD × Option (Slot × Bool) → ℕ) : BI.Persistent (bigSep Finset.univ (record m K)) := by infer_instance

theorem ghost_intro (K : Dev nD × Option (Slot × Bool) → ℕ) (c : Dev nD) :
    iprop(bigSep Finset.univ (record m K) ∗ (bigSep Finset.univ fun k : Option (Slot × Bool) => atPos ER (kcell (c, k)) 0 ∅ 0) ∗ payToks c) ⊢ G' m c := by
  unfold payToks G' ghost
  rw [with_bar_pairs]
  simp only [BI.bigSep_sep']
  iintro ⟨#HR, ⟨Hb, Hs, Hr⟩, ⟨Ht1, Ht2⟩, Hts, Htr⟩
  iexists K
  isplitr; · iexact HR
  isplitr [Ht1 Ht2 Hb]
  · isplitl [Hts]; · iexact Hts
    isplitl [Htr]; · iexact Htr
    isplitl [Hs] <;> iassumption
  isplitl [Ht1]; · iexact Ht1
  isplitl [Ht2] <;> iassumption

theorem regroup :
    (bigSep Finset.univ fun c : Dev nD => iprop((bigSep Finset.univ fun k : Option (Slot × Bool) => iprop(∃ κ : ℕ, cellInv ER (ringRd m) κ (kcell (c, k))))
          ∗ (bigSep Finset.univ fun k : Option (Slot × Bool) => atPos ER (kcell (c, k)) 0 ∅ 0)
          ∗ (bigSep Finset.univ fun k : Option (Slot × Bool) => reached ER (kcell (c, k)) 0) ∗ toks c) : sProp 𝕄)
      ⊢ bigSep Finset.univ (G' m) := by
  rw [BI.bigSep_sep', BI.bigSep_sep', BI.bigSep_sep',
    ← BI.bigSep_univ_prod (fun ck : Dev nD × Option (Slot × Bool) => iprop(∃ κ : ℕ, cellInv ER (ringRd m) κ (kcell ck))),
    ← BI.bigSep_univ_prod (fun ck : Dev nD × Option (Slot × Bool) => (reached ER (kcell ck) 0 : sProp 𝕄))]
  iintro ⟨HI, Hat, #HR, Htok⟩
  ihave HK := (BI.bigSep_exists_pi Finset.univ (fun (ck : Dev nD × Option (Slot × Bool)) (κ : ℕ) => (cellInv ER (ringRd m) κ (kcell ck) : sProp 𝕄))) $$ HI
  icases HK with ⟨%K, #HI⟩
  ihave Htk := (toks_around (F := F)) $$ Htok
  iapply (bigSep_with_persistent (R := bigSep Finset.univ (record m K)) fun c _ => ghost_intro m K c)
  isplitr
  · iapply (Entails.of_eq (BI.bigSep_sep' Finset.univ (fun ck => (cellInv ER (ringRd m) (K ck) (kcell ck) : sProp 𝕄)) (fun ck => reached ER (kcell ck) 0)).symm)
    isplitl; · iexact HI
    iexact HR
  · iapply (Entails.of_eq (BI.bigSep_sep' Finset.univ (fun c : Dev nD => bigSep Finset.univ fun k : Option (Slot × Bool) => (atPos ER (kcell (c, k)) 0 ∅ 0 : sProp 𝕄)) payToks).symm)
    isplitl [Hat] <;> iassumption

/-- All the invariants at once, from all the devices' semaphores. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((BI.bigSep_mono fun c _ => core_alloc m c).trans (bigSep_fupd _ _)).trans (BI.fupd_mono (regroup m))

/-! ## The credit at launch -/

theorem creds_owing (c : Dev nD) (l : List Slot) (hl : l.Nodup) :
    (Pipeline.launchCred (fun d => owing d l) c : sProp 𝕄) ⊢ bigSep l.toFinset fun s : Slot => cred (tallyAt (recvCell c s) () N) := by
  induction l with
  | nil => rw [List.toFinset_nil, BI.bigSep_empty]; iintro -; iempintro
  | cons s l ih =>
    obtain ⟨h1, h2⟩ := List.nodup_cons.mp hl
    have e : (bigSep (s :: l).toFinset fun s : Slot => (cred (tallyAt (recvCell c s) () N) : sProp 𝕄))
        = iprop(cred (tallyAt (recvCell c s) () N) ∗ bigSep l.toFinset fun s : Slot => cred (tallyAt (recvCell c s) () N)) := by
      rw [List.toFinset_cons, BI.bigSep_insert (by rwa [List.mem_toFinset])]; rfl
    rw [e]
    refine (Entails.of_eq (Pipeline.launchCred_add (fun d => owing d l) (fun d => tallyAt (recvCell (dst s.1 d) s) () N) c)).trans ?_
    iintro ⟨H1, H2⟩
    isplitl [H2]
    · iapply (Pipeline.launchCred_tallyAt (.dma (slotQ (rS s.1) s.2.1 s.2.2)) (dst s.1) (src s.1) (dst_src s.1) (src_dst s.1) () N c); iexact H2
    · iapply (ih h2); iexact H1

theorem creds_intro (c : Dev nD) : (Pipeline.launchCred O₀ c : sProp 𝕄) ⊢ creds c := by
  have bar (d : Bool) : (Pipeline.launchCred (fun e => tallyAt (barCell (src d e)) () 1) c : sProp 𝕄) ⊢ cred (tallyAt (barCell c) () 1) :=
    Pipeline.launchCred_tallyAt (.reg barS) (src d) (dst d) (src_dst d) (dst_src d) () 1 c
  have two : (tallyAt (barCell c) () 2 : CellTallies nD τ sig Unit) = tallyAt (barCell c) () 1 + tallyAt (barCell c) () 1 := (tallyAt_add _ _ 1 1).symm
  have e : (Pipeline.launchCred O₀ c : sProp 𝕄) = iprop((Pipeline.launchCred (fun d => owing d order) c
      ∗ Pipeline.launchCred (fun e => tallyAt (barCell (src true e)) () 1) c) ∗ Pipeline.launchCred (fun e => tallyAt (barCell (src false e)) () 1) c) := by
    rw [← Pipeline.launchCred_add, ← Pipeline.launchCred_add]; rfl
  rw [e]
  unfold creds
  iintro ⟨⟨H1, H2⟩, H3⟩
  isplitr [H1]
  · rw [two]
    iapply (cred_add _ _).2
    isplitl [H2]
    · iapply (bar true); iexact H2
    · iapply (bar false); iexact H3
  · rw [order_univ]
    iapply (creds_owing c order order_nodup); iexact H1

/-! ## The rest of what the launch asks for -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hlev] <;> iassumption
  · iempintro

theorem bufs_eq (c : Dev nD) : (Pipeline.scopedRest (Ix := Unit) (Name := ℕ) (U := UU) (Lvl := ℕ) (Val := Elt F) spec0 c : sProp 𝕄) = bufs c := by
  rw [scopedRest0_eq]
  unfold bufs
  rw [(buf_whole c false).1, (buf_whole c false).2, (buf_whole c true).1, (buf_whole c true).2]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, bufs_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, show cfg0.spec = spec0 from rfl, bufs_eq, unscopedSems0_eq]
  unfold Φ₁
  iintro ⟨Hd, Hz⟩
  isplitl [Hz]; · iexact Hz
  iapply (all_done m c); iexact Hd

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : Unit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every execution on the four devices ends, with each device's arrays at their final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array holds after the run what it held. -/
theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

end Cert.KernelIdeal.Ring

end
-- ==== Proof.RingIdeal.Final.lean ====
/- What the result's array holds after the run: each device's block of the result. -/
module

public import proofs.«01_k».proof.Proof.RingIdeal.Launch

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

/-- The one block of the result is the whole array. -/
theorem mem_blk (t : Fin cfg0.N) (i : S256x1024.Idx) : i ∈ ((cfg0.win (2 : Fin 3)).blk t).view.set := by
  show i ∈ ((View.whole main_v1).slice (win0_2.rect t)).set
  rw [View.set_slice_whole, Rect.mem_set_unit]
  have e : win0_2.index t 0 * win0_2.size 0 = 0 ∧ win0_2.xsize (grid0.coords t) 0 = 256
      ∧ win0_2.index t 1 * win0_2.size 1 = 0 ∧ win0_2.xsize (grid0.coords t) 1 = 1024 := by
    rcases fin_N0 t with rfl; decide +kernel
  have h0 : (i 0 : ℕ) < 256 := (i 0).isLt
  have h1 : (i 1 : ℕ) < 1024 := (i 1).isLt
  intro a
  match a with
  | ⟨0, _⟩ => show win0_2.index t 0 * win0_2.size 0 ≤ (i 0 : ℕ) ∧ (i 0 : ℕ) < win0_2.index t 0 * win0_2.size 0 + win0_2.xsize (grid0.coords t) 0
              rw [e.1, e.2.1]; omega
  | ⟨1, _⟩ => show win0_2.index t 1 * win0_2.size 1 ≤ (i 1 : ℕ) ∧ (i 1 : ℕ) < win0_2.index t 1 * win0_2.size 1 + win0_2.xsize (grid0.coords t) 1
              rw [e.2.2.1, e.2.2.2]; omega

theorem flushed_eq (c : Dev nD) (t : Fin cfg0.N) :
    (dats m ρ 0 c).flushed (2 : Fin 3) t = ((cfg0.win (2 : Fin 3)).blk t).view.read (Elt F) (outC (xv m) (wv m) c) := by
  obtain rfl := fin_N0 t
  have ha : (dats m ρ 0 c).after (2 : Fin 3) t0_0 = outC (xv m) (wv m) c := by dsimp only [dats]
  unfold Pipeline.Dat.flushed
  rw [ha]
  funext i
  refine congrArg (outC (xv m) (wv m) c) (funext fun a => Fin.ext ?_)
  match a with
  | ⟨0, _⟩ => show (i 0 : ℕ) = 0 * 256 + 1 * (i 0 : ℕ); omega
  | ⟨1, _⟩ => show (i 1 : ℕ) = 0 * 1024 + 1 * (i 1 : ℕ); omega

/-- The result's array of device `c` ends holding `outC`. -/
theorem finalA_o (c : Dev nD) : finalA m ρ c (2 : Fin 3) = outC (xv m) (wv m) c :=
  (dats m ρ 0 c).arrAt_eq_of_cover (2 : Fin 3) (outC (xv m) (wv m) c) (fun t _ => flushed_eq m ρ c t) fun i => ⟨t0_0, flush0_2 _, mem_blk _ i⟩

/-- The staged argument blocks are the arguments. -/
theorem xv_eq (c : Dev nD) : xv m c = m ((c : Thread nD τ).loc main_arg0) := by
  funext i
  unfold xv
  refine congrArg (m ((c : Thread nD τ).loc main_arg0)) (funext fun a => Fin.ext ?_)
  match a with
  | ⟨0, _⟩ => show 0 * 1024 + 1 * (i 0 : ℕ) = (i 0 : ℕ); omega
  | ⟨1, _⟩ => show 0 * 256 + 1 * (i 1 : ℕ) = (i 1 : ℕ); omega
theorem wv_eq (c : Dev nD) : wv m c = m ((c : Thread nD τ).loc main_arg1) := by
  funext i
  unfold wv
  refine congrArg (m ((c : Thread nD τ).loc main_arg1)) (funext fun a => Fin.ext ?_)
  match a with
  | ⟨0, _⟩ => show 0 * 256 + 1 * (i 0 : ℕ) = (i 0 : ℕ); omega
  | ⟨1, _⟩ => show 0 * 1024 + 1 * (i 1 : ℕ) = (i 1 : ℕ); omega

/-- Every execution on the four devices ends with each device's block of the result at `outC` of all the arguments' blocks,
    and with the arguments unchanged. -/
theorem run_value : θ_run defs (onTc (τ := τ) (main (F := F))) (s₀ m ρ) fun r => ∀ c : Dev nD,
    r.2.mem ((c : Thread nD τ).loc main_v1)
        = outC (fun e : Dev nD => m ((e : Thread nD τ).loc main_arg0)) (fun e : Dev nD => m ((e : Thread nD τ).loc main_arg1)) c
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, (h.1 c (0 : Fin 3)).trans (finalA_x m ρ c), (h.1 c (1 : Fin 3)).trans (finalA_w m ρ c)⟩) (run_main m ρ)
  have e := (h.1 c (2 : Fin 3)).trans (finalA_o m ρ c)
  rw [show xv m = fun e : Dev nD => m ((e : Thread nD τ).loc main_arg0) from funext (xv_eq m),
    show wv m = fun e : Dev nD => m ((e : Thread nD τ).loc main_arg1) from funext (wv_eq m)] at e
  exact e

end Cert.KernelIdeal.Ring

end
-- ==== Proof.RingIdeal.Sums.lean ====
/- The sums over the extended reals: a device's contribution to an element of the product is a sum over its own 256
   positions, what goes round the ring adds the other three devices' contributions, and the four together are the sum
   over all 1024 positions. -/
module

public import proofs.«01_k».proof.Proof.RingIdeal.Vals
public import Idealize.ShloMosaic.Lib.MatmulPlain
public import Idealize.ShloMosaic.Lib.IdealHost

@[expose] public section

noncomputable section

namespace Cert.KernelIdeal.Ring

open Cert.KernelIdeal Cert.KernelIdeal.Gen
open Idealize.ShloMosaic hiding ix2
open Idealize.ShloMosaic.TcCoe Idealize.ShloMosaic.ValueIdx
open scoped BigOperators

/-- The arrays of the whole problem. -/
abbrev Sq : Shape := ⟨2, ![1024, 1024]⟩

variable (X W : Sq.Idx → EReal)

/-- One element of the whole product. -/
def dot (r q : Fin 1024) : EReal := ∑ k : Fin 1024, X (ix2 r k) * W (ix2 k q)

/-- Position `t` among those of device `e`. -/
abbrev pos (e : Dev nD) (t : Fin 256) : Fin 1024 := ⟨256 * e.val + t.val, by have := e.isLt; have := t.isLt; change e.val < 4 at *; omega⟩

/-- What device `e` adds to one element. -/
def term (r q : Fin 1024) (e : Dev nD) : EReal := ∑ t : Fin 256, X (ix2 r (pos e t)) * W (ix2 (pos e t) q)

/-- The four devices' terms are the whole sum. -/
theorem sum_terms (r q : Fin 1024) : ∑ e : Dev nD, term X W r q e = dot X W r q := by
  unfold term dot
  rw [← Equiv.sum_comp (finProdFinEquiv (m := 4) (n := 256)) (fun k : Fin 1024 => X (ix2 r k) * W (ix2 k q)), Fintype.sum_prod_type]
  refine Finset.sum_congr rfl fun e _ => Finset.sum_congr rfl fun t _ => ?_
  have h : (finProdFinEquiv (m := 4) (n := 256) (e, t) : Fin 1024) = pos e t := Fin.ext (by
    show t.val + 256 * e.val = 256 * e.val + t.val; omega)
  rw [h]

/-- Going round the ring from any device, in either direction, meets every device once. -/
theorem sum_ring (f : Dev nD → EReal) (d : Bool) (c : Dev nD) :
    f c + (f (src d c) + (f (src d (src d c)) + f (src d (src d (src d c))))) = ∑ e : Dev nD, f e := by
  rw [show (∑ e : Dev nD, f e) = f 0 + f 1 + f 2 + f 3 from Fin.sum_univ_four f]
  have key : ∀ (d : Bool) (c : Dev nD),
      (c = 0 ∧ src d c = 1 ∧ src d (src d c) = 2 ∧ src d (src d (src d c)) = 3)
      ∨ (c = 1 ∧ src d c = 2 ∧ src d (src d c) = 3 ∧ src d (src d (src d c)) = 0)
      ∨ (c = 2 ∧ src d c = 3 ∧ src d (src d c) = 0 ∧ src d (src d (src d c)) = 1)
      ∨ (c = 3 ∧ src d c = 0 ∧ src d (src d c) = 1 ∧ src d (src d (src d c)) = 2)
      ∨ (c = 0 ∧ src d c = 3 ∧ src d (src d c) = 2 ∧ src d (src d (src d c)) = 1)
      ∨ (c = 1 ∧ src d c = 0 ∧ src d (src d c) = 3 ∧ src d (src d (src d c)) = 2)
      ∨ (c = 2 ∧ src d c = 1 ∧ src d (src d c) = 0 ∧ src d (src d (src d c)) = 3)
      ∨ (c = 3 ∧ src d c = 2 ∧ src d (src d c) = 1 ∧ src d (src d (src d c)) = 0) := by decide
  rcases key d c with ⟨h0, h1, h2, h3⟩ | ⟨h0, h1, h2, h3⟩ | ⟨h0, h1, h2, h3⟩ | ⟨h0, h1, h2, h3⟩ | ⟨h0, h1, h2, h3⟩ | ⟨h0, h1, h2, h3⟩
    | ⟨h0, h1, h2, h3⟩ | ⟨h0, h1, h2, h3⟩ <;> rw [h3, h2, h1, h0] <;> ac_rfl

/-- The rows that a device adds to at each step are those of the device that they end at. -/
theorem chunks : ∀ (d : Bool) (c : Dev nD), chunk d 2 (src d c) = c.val ∧ chunk d 1 (src d (src d c)) = c.val
    ∧ chunk d 0 (src d (src d (src d c))) = c.val := by decide

/-! ## The device's blocks of the arguments -/

variable (x : Dev nD → S1024x256.Idx → Ideal .f32) (w : Dev nD → S256x1024.Idx → Ideal .f32)

/-- The devices hold their blocks of the two arrays. -/
structure Held : Prop where
  left : ∀ (c : Dev nD) (a : Fin 1024) (t : Fin 256), x c (ix2 a t) = X (ix2 a (pos c t))
  right : ∀ (c : Dev nD) (t : Fin 256) (b : Fin 1024), w c (ix2 t b) = W (ix2 (pos c t) b)

/-- A printed product of blocks, at an index. -/
theorem pay1_apply (A : Vec Ideal S256x256 .f32) (B : Vec Ideal S256x512 .f32) (a : Fin 256) (b : Fin 512) :
    k0_pay1 A B (ix2 a b) = ∑ t : Fin 256, A (ix2 a t) * B (ix2 t b) := by
  unfold k0_pay1
  rw [shapeCast_self, shapeCast_self]
  refine (Ideal.matmul_plain_apply (M := 256) (K := 256) (N := 512) none A B (constant S256x512 .f32 0x00000000#32) a b).trans ?_
  rw [show (constant (F := Ideal) S256x512 .f32 0x00000000#32) (ix2 a b) = 0 from Ideal.ofBits_zero_f32, zero_add]

/-- The column of the whole product that column `b` of lane `d` is. -/
abbrev column (d : Bool) (b : Fin 512) : Fin 1024 := match d with
  | false => ⟨b.val, by omega⟩
  | true => ⟨512 + b.val, by omega⟩

/-- The row of the whole product that row `a` of block `k` is. -/
abbrev row (k : ℕ) (a : Fin 256) : Fin 1024 := Fin.ofNat 1024 (256 * k + a.val)

variable {X W x w} (H : Held X W x w)
include H

theorem part_apply (d : Bool) (k : ℕ) (c : Dev nD) (a : Fin 256) (b : Fin 512) :
    part x w d k c (ix2 a b) = term X W (row k a) (column d b) c := by
  unfold part term
  rw [pay1_apply]
  refine Finset.sum_congr rfl fun t _ => ?_
  have hx : xRows k (x c) (ix2 a t) = X (ix2 (row k a) (pos c t)) := by
    rw [← H.left]
    exact congrArg (x c) (funext fun i => by match i with | ⟨0, _⟩ => rfl | ⟨1, _⟩ => rfl)
  have hw : wHalf d (w c) (ix2 t b) = W (ix2 (pos c t) (column d b)) := by
    rw [← H.right]
    refine congrArg (w c) (funext fun i => ?_)
    match i, d with
    | ⟨0, _⟩, _ => rfl
    | ⟨1, _⟩, false => exact Fin.ext (Nat.mod_eq_of_lt (show b.val < 1024 by omega))
    | ⟨1, _⟩, true => exact Fin.ext (Nat.mod_eq_of_lt (show 512 + b.val < 1024 by omega))
  rw [hx, hw]

/-- The complete sums are elements of the whole product. -/
theorem total_apply (d : Bool) (c : Dev nD) (a : Fin 256) (b : Fin 512) :
    total x w d c (ix2 a b) = dot X W (row c.val a) (column d b) := by
  obtain ⟨h2, h1, h0⟩ := chunks d c
  rw [← sum_terms, ← sum_ring _ d c]
  show part x w d c.val c (ix2 a b) + (part x w d (chunk d 2 (src d c)) (src d c) (ix2 a b)
    + (part x w d (chunk d 1 (src d (src d c))) (src d (src d c)) (ix2 a b)
      + part x w d (chunk d 0 (src d (src d (src d c)))) (src d (src d (src d c))) (ix2 a b))) = _
  rw [h2, h1, h0]
  simp only [part_apply H]

end Cert.KernelIdeal.Ring

end
-- ==== Proof.RingIdeal.Silu.lean ====
/- The activation over the extended reals, and the result's elements: each is silu of an element of the whole product. -/
module

public import proofs.«01_k».proof.Proof.RingIdeal.Sums

@[expose] public section

noncomputable section

namespace Cert.KernelIdeal.Ring

open Cert.KernelIdeal Cert.KernelIdeal.Gen
open Idealize.ShloMosaic hiding ix2
open Idealize.ShloMosaic.TcCoe Idealize.ShloMosaic.ValueIdx
open scoped BigOperators

/-- `y / (1 + e⁻ʸ)`. -/
def silu (y : EReal) : EReal := Ideal.div y (1 + Ideal.exp (-y))

theorem exp_nonneg (y : EReal) : 0 ≤ Ideal.exp y := by
  induction y with
  | bot => simp
  | top => simp
  | coe r => rw [Ideal.exp_coe]; exact_mod_cast (Real.exp_pos r).le

theorem denominator_ne_zero (y : EReal) : 1 + Ideal.exp y ≠ 0 := by
  have h : (1 : EReal) ≤ 1 + Ideal.exp y := le_add_of_nonneg_right (exp_nonneg y)
  exact (lt_of_lt_of_le zero_lt_one h).ne'

/-- The kernel's product with a reciprocal is that quotient. -/
theorem act_eq (y : Ideal .f32) : act (F := Ideal) y = silu y := by
  show (y : EReal) * Ideal.div (Ideal.ofBits .f32 0x3F800000#32)
    (Ideal.ofBits .f32 0x3F800000#32 + Ideal.exp (Ideal.ofBits .f32 0x00000000#32 - y)) = silu y
  rw [Ideal.ofBits_one_f32, Ideal.ofBits_zero_f32, zero_sub, Ideal.mul_one_div (denominator_ne_zero _)]
  rfl

theorem sixty : Ideal.ofBits .f32 0x42700000#32 = ((60 : ℝ) : EReal) := by
  simp [Ideal.ofBits, Ideal.ieee, -EReal.coe_mul]; norm_num

theorem minus_sixty : Ideal.ofBits .f32 0xC2700000#32 = ((-60 : ℝ) : EReal) := by
  simp [Ideal.ofBits, Ideal.ieee, -EReal.coe_mul, -EReal.coe_neg]; norm_num

/-- Where the magnitude is at most sixty, the clip does nothing. -/
theorem clip_eq (y : EReal) (h : max y (-y) ≤ Ideal.ofBits .f32 0x42700000#32) :
    min (Ideal.ofBits .f32 0x42700000#32) (max (Ideal.ofBits .f32 0xC2700000#32) y) = y := by
  rw [sixty] at h ⊢
  rw [minus_sixty]
  have h1 : y ≤ ((60 : ℝ) : EReal) := (le_max_left _ _).trans h
  have h2 : ((-60 : ℝ) : EReal) ≤ y := by
    rw [EReal.coe_neg]
    exact EReal.neg_le.mp ((le_max_right _ _).trans h)
  rw [max_eq_right h2, min_eq_right h1]

variable {X W : Sq.Idx → EReal} {x : Dev nD → S1024x256.Idx → Ideal .f32} {w : Dev nD → S256x1024.Idx → Ideal .f32}

/-- Every element of device `c`'s block of the result is silu of the element of the whole product that lies there. -/
theorem out_apply (H : Held X W x w) (c : Dev nD) (i : S256x1024.Idx) (j : Sq.Idx) (h0 : (j 0).val = c.val * 256 + (i 0).val)
    (h1 : (j 1).val = (i 1).val) : outC x w c i = silu (dot X W (j 0) (j 1)) := by
  have ha : (i 0).val < 256 := (i 0).isLt
  have hb : (i 1).val < 1024 := (i 1).isLt
  have hc : c.val < 4 := c.isLt
  have one (d : Bool) (b : Fin 512) (hd : column d b = j 1) : act (total x w d c (iP (i 0).val b)) = silu (dot X W (j 0) (j 1)) := by
    have e : iP (i 0).val b = ix2 (⟨(i 0).val, ha⟩ : Fin 256) b :=
      funext fun a => by match a with | ⟨0, _⟩ => exact Fin.ext (Nat.mod_eq_of_lt ha) | ⟨1, _⟩ => rfl
    have er : row c.val ⟨(i 0).val, ha⟩ = j 0 := Fin.ext (by
      rw [h0]; show (256 * c.val + (i 0).val) % 1024 = c.val * 256 + (i 0).val; omega)
    rw [act_eq, e, total_apply H, er, hd]
  unfold outC
  split
  · rename_i h
    exact one false ⟨(i 1).val, h⟩ (Fin.ext h1.symm)
  · rename_i h
    exact one true ⟨(i 1).val - 512, by omega⟩ (Fin.ext (by rw [h1]; show 512 + ((i 1).val - 512) = (i 1).val; omega))

end Cert.KernelIdeal.Ring

end
-- ==== Proof.RingIdeal.Host.lean ====
/- What the two host programs and the mask compute at an element, over the extended reals. -/
module

public import proofs.«01_k».proof.Proof.Gen.ReferenceIdeal
public import proofs.«01_k».proof.Proof.Gen.SiluIdeal
public import proofs.«01_k».proof.Proof.Gen.On_inside_the_clip
public import proofs.«01_k».proof.Proof.RingIdeal.Silu
public import Idealize.ShloMosaic.Lib.StackMember

@[expose] public section

noncomputable section

namespace Cert.KernelIdeal.Ring

open Idealize.ShloMosaic hiding ix2
open Idealize.ShloMosaic.ValueIdx
open scoped BigOperators

variable (X W : FVec Ideal Sq .f32)

/-- The host's product of the whole arrays, at an element. -/
theorem product_apply (j : Sq.Idx) : Host.dotGeneral (DotDims.plain 1024 1024 1024) none X W j = dot X W (j 0) (j 1) :=
  (congrArg (Host.dotGeneral (DotDims.plain 1024 1024 1024) none X W) (ValueIdx.eq_ix2 j)).trans
    (StackMember.dotGeneral_plain_apply (m := 1024) (n := 1024) (k := 1024) none X W (j 0) (j 1))

theorem dims_silu : Cert.SiluIdeal.dot_S1024x1024_S1024x1024_S1024x1024_1_0_0_1_n_n = DotDims.plain 1024 1024 1024 := rfl
theorem dims_reference : Cert.ReferenceIdeal.dot_S1024x1024_S1024x1024_S1024x1024_1_0_0_1_n_n = DotDims.plain 1024 1024 1024 := rfl
theorem dims_mask : Cert.On_inside_the_clip.dot_S1024x1024_S1024x1024_S1024x1024_1_0_0_1_n_n = DotDims.plain 1024 1024 1024 := rfl

/-- The unclipped formula of an array of products, at an element. -/
theorem silu_of (D : FVec Ideal Sq .f32) (h : (⟨0, ![]⟩ : Shape).BroadcastsInDim Sq ![]) (j : Sq.Idx) :
    Host.divf D (addf (broadcastInDim Sq ![] h (constant ⟨0, ![]⟩ .f32 0x3F800000#32)) (Host.exp (Host.negf D))) j = silu (D j) := by
  show Ideal.div (D j) (Ideal.ofBits .f32 0x3F800000#32 + Ideal.exp (-(D j))) = silu (D j)
  rw [Ideal.ofBits_one_f32]
  rfl

/-- The clipped formula, at an element where the clip does nothing. -/
theorem clipped_of (D : FVec Ideal Sq .f32) (h : (⟨0, ![]⟩ : Shape).BroadcastsInDim Sq ![]) (j : Sq.Idx)
    (hj : max (D j) (-(D j)) ≤ Ideal.ofBits .f32 0x42700000#32) :
    Host.divf D (addf (broadcastInDim Sq ![] h (constant ⟨0, ![]⟩ .f32 0x3F800000#32))
        (Host.exp (Host.negf (minimumf (broadcastInDim Sq ![] h (id (constant ⟨0, ![]⟩ .f32 0x42700000#32)))
          (maximumf (broadcastInDim Sq ![] h (id (constant ⟨0, ![]⟩ .f32 0xC2700000#32))) D))))) j = silu (D j) := by
  show Ideal.div (D j) (Ideal.ofBits .f32 0x3F800000#32
    + Ideal.exp (-(min (Ideal.ofBits .f32 0x42700000#32) (max (Ideal.ofBits .f32 0xC2700000#32) (D j))))) = silu (D j)
  rw [clip_eq _ hj, Ideal.ofBits_one_f32]
  rfl

/-- The mask of an array of products, at an element. -/
theorem mask_of (D : FVec Ideal Sq .f32) (h : (⟨0, ![]⟩ : Shape).BroadcastsInDim Sq ![]) (j : Sq.Idx)
    (hj : cmpf .ole (Host.absf D) (broadcastInDim Sq ![] h (constant ⟨0, ![]⟩ .f32 0x42700000#32)) j = 1#1) :
    max (D j) (-(D j)) ≤ Ideal.ofBits .f32 0x42700000#32 := by
  have e : BitVec.ofBool (decide (max (D j) (-(D j)) ≤ Ideal.ofBits .f32 0x42700000#32)) = 1#1 := hj
  by_contra hn
  rw [decide_eq_false hn] at e
  exact absurd e (by decide)

end Cert.KernelIdeal.Ring

end
-- ==== Proof.lean ====
/- The proof of every claim of this certificate: the kernel and the host programs run, leave their arguments as they
   were and every semaphore at zero, and over the extended reals their results agree. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Ring.Launch
public import proofs.«01_k».proof.Proof.RingIdeal.Launch
public import proofs.«01_k».proof.Proof.Gen.On_inside_the_clip
public import proofs.«01_k».proof.Proof.RingIdeal.Final
public import proofs.«01_k».proof.Proof.RingIdeal.Sums
public import proofs.«01_k».proof.Proof.RingIdeal.Silu
public import proofs.«01_k».proof.Proof.RingIdeal.Host
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, keeps its arguments and puts every counter back. -/
theorem frame_kernel : Cert.quiescent_Kernel := by
  intro m ρ _
  exact (θ_run Cert.Kernel.defs _ _).mono (fun _ h => ⟨fun c => ⟨(h.1 c (0 : Fin 3)).trans (Cert.Kernel.Ring.finalA_x m ρ c),
      (h.1 c (1 : Fin 3)).trans (Cert.Kernel.Ring.finalA_w m ρ c)⟩, h.2⟩) (Cert.Kernel.Ring.run_main (F := Bits) m ρ)

/-- So does the kernel over the extended reals. -/
theorem frame_ideal : Cert.quiescent_KernelIdeal := by
  intro m ρ _
  exact (θ_run Cert.KernelIdeal.defs _ _).mono (fun _ h => ⟨fun c => ⟨(h.1 c (0 : Fin 3)).trans (Cert.KernelIdeal.Ring.finalA_x m ρ c),
      (h.1 c (1 : Fin 3)).trans (Cert.KernelIdeal.Ring.finalA_w m ρ c)⟩, h.2⟩) (Cert.KernelIdeal.Ring.run_main (F := Ideal) m ρ)

/-- The clipped formula's program runs; it has no semaphores. -/
theorem frame_reference : Cert.quiescent_ReferenceIdeal := by
  intro m ρ _
  exact (θ_run Cert.ReferenceIdeal.defs _ _).mono (fun r h => ⟨fun c => (h c).2, sem_eq_zero_of_no_sems rfl r.2⟩)
    (Cert.ReferenceIdeal.Value.run (F := Ideal) m ρ)

/-- So does silu's program. -/
theorem frame_silu : Cert.quiescent_SiluIdeal := by
  intro m ρ _
  exact (θ_run Cert.SiluIdeal.defs _ _).mono (fun r h => ⟨fun c => (h c).2, sem_eq_zero_of_no_sems rfl r.2⟩)
    (Cert.SiluIdeal.Value.run (F := Ideal) m ρ)

open Cert.KernelIdeal.Ring (Sq dot silu)

/-- Device `c`'s block of the columns of an array holds, at `(a, t)`, the element at column `256 c + t`; and its block of
    the rows, at `(t, b)`, the element at row `256 c + t`. -/
theorem held (X W : Sq.Idx → EReal) (x : Dev Cert.KernelIdeal.nD → Cert.KernelIdeal.S1024x256.Idx → Ideal .f32)
    (w : Dev Cert.KernelIdeal.nD → Cert.KernelIdeal.S256x1024.Idx → Ideal .f32)
    (hx : ∀ c, x c = Layout.block ⟨2, ![1024, 256]⟩ ⟨2, ![1024, 1024]⟩ 1 4 c X)
    (hw : ∀ c, w c = Layout.block ⟨2, ![256, 1024]⟩ ⟨2, ![1024, 1024]⟩ 0 4 c W) : Cert.KernelIdeal.Ring.Held X W x w where
  left c a t := by
    rw [hx c]
    refine (Layout.block_apply c X (by decide) _).trans (congrArg X (Shape.idx_ext₂ ?_ ?_))
    · exact (Layout.idx_cols_val _ c _).1
    · refine (Layout.idx_cols_val _ c _).2.trans ?_
      show c.val * 256 + t.val = 256 * c.val + t.val
      omega
  right c t b := by
    rw [hw c]
    refine (Layout.block_apply c W (by decide) _).trans (congrArg W (Shape.idx_ext₂ ?_ ?_))
    · refine (Layout.idx_rows_val _ c _).1.trans ?_
      show c.val * 256 + t.val = 256 * c.val + t.val
      omega
    · exact (Layout.idx_rows_val _ c _).2

/-- silu of the whole product: the value every claim below names. -/
def value (X W : Sq.Idx → EReal) : Sq.Idx → EReal := fun j => silu (dot X W (j 0) (j 1))

/-- Device `c` ends with its block of rows of that value. -/
theorem out_block {X W : Sq.Idx → EReal} {x : Dev Cert.KernelIdeal.nD → Cert.KernelIdeal.S1024x256.Idx → Ideal .f32}
    {w : Dev Cert.KernelIdeal.nD → Cert.KernelIdeal.S256x1024.Idx → Ideal .f32} (H : Cert.KernelIdeal.Ring.Held X W x w)
    (c : Dev Cert.KernelIdeal.nD) : Cert.KernelIdeal.Ring.outC (F := Ideal) x w c
      = Layout.block ⟨2, ![256, 1024]⟩ ⟨2, ![1024, 1024]⟩ 0 4 c (value X W) := by
  funext i
  refine Eq.trans ?_ (Layout.block_apply c (value X W) (by decide) i).symm
  exact Cert.KernelIdeal.Ring.out_apply H c i _ (Layout.idx_rows_val _ c i).1 (Layout.idx_rows_val _ c i).2

/-- The kernel and silu's program end with the same value, at every element. -/
theorem algebraic_silu : Cert.algebraic_KernelIdeal_SiluIdeal := by
  intro m g m' g' _ hargs
  have H := held _ _ (fun e => m (e.tc.loc Cert.KernelIdeal.main_arg0)) (fun e => m (e.tc.loc Cert.KernelIdeal.main_arg1))
    (fun c => (hargs c).1) (fun c => (hargs c).2)
  refine ⟨value (m' ((0 : Dev Cert.SiluIdeal.nD).tc.loc Cert.SiluIdeal.main_arg0)) (m' ((0 : Dev Cert.SiluIdeal.nD).tc.loc Cert.SiluIdeal.main_arg1)), ?_, ?_⟩
  · exact (θ_run Cert.KernelIdeal.defs _ _).mono (fun r h c => ⟨(h c).1.trans (out_block H c), (h c).2⟩)
      (Cert.KernelIdeal.Ring.run_value (F := Ideal) m g)
  · refine (θ_run Cert.SiluIdeal.defs _ _).mono (fun r h => ⟨(h 0).1.trans ?_, (h 0).2⟩)
      (Cert.SiluIdeal.Value.run (F := Ideal) m' g')
    funext j
    refine (Cert.KernelIdeal.Ring.silu_of _ _ j).trans (congrArg silu ?_)
    rw [Cert.KernelIdeal.Ring.dims_silu]
    exact Cert.KernelIdeal.Ring.product_apply _ _ j

/-- The kernel and the clipped formula's program end with the same value wherever the product lies inside the clip. -/
theorem algebraic_reference : Cert.algebraic_KernelIdeal_ReferenceIdeal_on_inside_the_clip := by
  intro m g m' g' _ hargs
  have H := held _ _ (fun e => m (e.tc.loc Cert.KernelIdeal.main_arg0)) (fun e => m (e.tc.loc Cert.KernelIdeal.main_arg1))
    (fun c => (hargs c).1) (fun c => (hargs c).2)
  refine ⟨value (m' ((0 : Dev Cert.ReferenceIdeal.nD).tc.loc Cert.ReferenceIdeal.main_arg0)) (m' ((0 : Dev Cert.ReferenceIdeal.nD).tc.loc Cert.ReferenceIdeal.main_arg1)), ?_, ?_⟩
  · exact (θ_run Cert.KernelIdeal.defs _ _).mono
      (fun r h c => ⟨fun i _ => congrFun ((h c).1.trans (out_block H c)) i, (h c).2⟩)
      (Cert.KernelIdeal.Ring.run_value (F := Ideal) m g)
  · refine (θ_run Cert.ReferenceIdeal.defs _ _).mono (fun r h => ⟨fun j hj => (congrFun (h 0).1 j).trans ?_, (h 0).2⟩)
      (Cert.ReferenceIdeal.Value.run (F := Ideal) m' g')
    unfold Cert.On_inside_the_clip.fn at hj
    rw [Cert.KernelIdeal.Ring.dims_mask] at hj
    rw [Cert.KernelIdeal.Ring.dims_reference]
    refine (Cert.KernelIdeal.Ring.clipped_of _ _ j (Cert.KernelIdeal.Ring.mask_of _ _ j hj)).trans (congrArg silu ?_)
    exact Cert.KernelIdeal.Ring.product_apply _ _ j

theorem claim : Cert.Claim :=
  ⟨Cert.Kernel.Gen.facts, Cert.KernelIdeal.Gen.facts, Cert.ReferenceIdeal.Gen.facts, Cert.SiluIdeal.Gen.facts,
    Cert.On_inside_the_clip.Gen.facts, frame_kernel, frame_ideal, frame_reference, frame_silu, trivial, algebraic_reference,
    algebraic_silu⟩

end Cert.Proof

end
